-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_BandKernel (m : (ℓ : Loc Cert.BandKernel.nD Cert.BandKernel.τ Cert.BandKernel.sig) → Buf (Elt Bits) ℓ) : Prop :=
  True

def Pre_BandKernelIdeal (m : (ℓ : Loc Cert.BandKernelIdeal.nD Cert.BandKernelIdeal.τ Cert.BandKernelIdeal.sig) → Buf (Elt Ideal) ℓ) : Prop :=
  True

def Pre_BandReferenceIdeal (m : (ℓ : Loc Cert.BandReferenceIdeal.nD Cert.BandReferenceIdeal.τ Cert.BandReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_BandKernel [hBandKernel : Cert.BandKernel.Facts] : Prop :=
  ∀ (m : (ℓ : Loc Cert.BandKernel.nD Cert.BandKernel.τ Cert.BandKernel.sig) → Buf (Elt Bits) ℓ) (g : Dev Cert.BandKernel.nD → PrngReg), Pre_BandKernel m →
    θ_run (Cert.BandKernel.defs (F := Bits)) (onTc (τ := Cert.BandKernel.τ) (Cert.BandKernel.main (F := Bits))) ⟨m, fun _ => 0, g⟩ (fun r => (∀ c : Dev Cert.BandKernel.nD,
      r.2.mem ((c.tc : Thread Cert.BandKernel.nD Cert.BandKernel.τ).loc Cert.BandKernel.main_arg0) = m ((c.tc : Thread Cert.BandKernel.nD Cert.BandKernel.τ).loc Cert.BandKernel.main_arg0)
      ∧ r.2.mem ((c.tc : Thread Cert.BandKernel.nD Cert.BandKernel.τ).loc Cert.BandKernel.main_arg1) = m ((c.tc : Thread Cert.BandKernel.nD Cert.BandKernel.τ).loc Cert.BandKernel.main_arg1))
      ∧ r.2.sem = fun _ => 0)

def quiescent_BandKernelIdeal [hBandKernelIdeal : Cert.BandKernelIdeal.Facts] : Prop :=
  ∀ (m : (ℓ : Loc Cert.BandKernelIdeal.nD Cert.BandKernelIdeal.τ Cert.BandKernelIdeal.sig) → Buf (Elt Ideal) ℓ) (g : Dev Cert.BandKernelIdeal.nD → PrngReg), Pre_BandKernelIdeal m →
    θ_run (Cert.BandKernelIdeal.defs (F := Ideal)) (onTc (τ := Cert.BandKernelIdeal.τ) (Cert.BandKernelIdeal.main (F := Ideal))) ⟨m, fun _ => 0, g⟩ (fun r => (∀ c : Dev Cert.BandKernelIdeal.nD,
      r.2.mem ((c.tc : Thread Cert.BandKernelIdeal.nD Cert.BandKernelIdeal.τ).loc Cert.BandKernelIdeal.main_arg0) = m ((c.tc : Thread Cert.BandKernelIdeal.nD Cert.BandKernelIdeal.τ).loc Cert.BandKernelIdeal.main_arg0)
      ∧ r.2.mem ((c.tc : Thread Cert.BandKernelIdeal.nD Cert.BandKernelIdeal.τ).loc Cert.BandKernelIdeal.main_arg1) = m ((c.tc : Thread Cert.BandKernelIdeal.nD Cert.BandKernelIdeal.τ).loc Cert.BandKernelIdeal.main_arg1))
      ∧ r.2.sem = fun _ => 0)

def quiescent_BandReferenceIdeal [hBandReferenceIdeal : Cert.BandReferenceIdeal.Facts] : Prop :=
  ∀ (m : (ℓ : Loc Cert.BandReferenceIdeal.nD Cert.BandReferenceIdeal.τ Cert.BandReferenceIdeal.sig) → Buf (Elt Ideal) ℓ) (g : Dev Cert.BandReferenceIdeal.nD → PrngReg), Pre_BandReferenceIdeal m →
    θ_run (Cert.BandReferenceIdeal.defs (F := Ideal)) (onTc (τ := Cert.BandReferenceIdeal.τ) (Cert.BandReferenceIdeal.main (F := Ideal))) ⟨m, fun _ => 0, g⟩ (fun r => (∀ c : Dev Cert.BandReferenceIdeal.nD,
      r.2.mem ((c.tc : Thread Cert.BandReferenceIdeal.nD Cert.BandReferenceIdeal.τ).loc Cert.BandReferenceIdeal.main_arg0) = m ((c.tc : Thread Cert.BandReferenceIdeal.nD Cert.BandReferenceIdeal.τ).loc Cert.BandReferenceIdeal.main_arg0)
      ∧ r.2.mem ((c.tc : Thread Cert.BandReferenceIdeal.nD Cert.BandReferenceIdeal.τ).loc Cert.BandReferenceIdeal.main_arg1) = m ((c.tc : Thread Cert.BandReferenceIdeal.nD Cert.BandReferenceIdeal.τ).loc Cert.BandReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_BandKernel_BandKernelIdeal : Prop :=
  True

def algebraic_BandKernelIdeal_BandReferenceIdeal [hBandKernelIdeal : Cert.BandKernelIdeal.Facts] [hBandReferenceIdeal : Cert.BandReferenceIdeal.Facts] : Prop :=
  ∀ (m : (ℓ : Loc Cert.BandKernelIdeal.nD Cert.BandKernelIdeal.τ Cert.BandKernelIdeal.sig) → Buf (Elt Ideal) ℓ) (g : Dev Cert.BandKernelIdeal.nD → PrngReg)
    (m' : (ℓ : Loc Cert.BandReferenceIdeal.nD Cert.BandReferenceIdeal.τ Cert.BandReferenceIdeal.sig) → Buf (Elt Ideal) ℓ) (g' : Dev Cert.BandReferenceIdeal.nD → PrngReg), Pre_BandKernelIdeal m →
    (∀ c : Dev Cert.BandKernelIdeal.nD,
      m' ((c.tc : Thread Cert.BandReferenceIdeal.nD Cert.BandReferenceIdeal.τ).loc Cert.BandReferenceIdeal.main_arg0) = m ((c.tc : Thread Cert.BandKernelIdeal.nD Cert.BandKernelIdeal.τ).loc Cert.BandKernelIdeal.main_arg0)
      ∧ m' ((c.tc : Thread Cert.BandReferenceIdeal.nD Cert.BandReferenceIdeal.τ).loc Cert.BandReferenceIdeal.main_arg1) = m ((c.tc : Thread Cert.BandKernelIdeal.nD Cert.BandKernelIdeal.τ).loc Cert.BandKernelIdeal.main_arg1)) →
    ∃ (v0 : (c : Dev Cert.BandKernelIdeal.nD) → Buf (Elt Ideal) ((c.tc : Thread Cert.BandKernelIdeal.nD Cert.BandKernelIdeal.τ).loc Cert.BandKernelIdeal.main_v6_0)) (v1 : (c : Dev Cert.BandKernelIdeal.nD) → Buf (Elt Ideal) ((c.tc : Thread Cert.BandKernelIdeal.nD Cert.BandKernelIdeal.τ).loc Cert.BandKernelIdeal.main_v6_1)) (v2 : (c : Dev Cert.BandKernelIdeal.nD) → Buf (Elt Ideal) ((c.tc : Thread Cert.BandKernelIdeal.nD Cert.BandKernelIdeal.τ).loc Cert.BandKernelIdeal.main_v6_2)) (v3 : (c : Dev Cert.BandKernelIdeal.nD) → Buf (Elt Ideal) ((c.tc : Thread Cert.BandKernelIdeal.nD Cert.BandKernelIdeal.τ).loc Cert.BandKernelIdeal.main_v6_3)) (v4 : (c : Dev Cert.BandKernelIdeal.nD) → Buf (Elt Ideal) ((c.tc : Thread Cert.BandKernelIdeal.nD Cert.BandKernelIdeal.τ).loc Cert.BandKernelIdeal.main_v6_4)),
      θ_run (Cert.BandKernelIdeal.defs (F := Ideal)) (onTc (τ := Cert.BandKernelIdeal.τ) (Cert.BandKernelIdeal.main (F := Ideal))) ⟨m, fun _ => 0, g⟩ (fun r => ∀ c : Dev Cert.BandKernelIdeal.nD,
          r.2.mem ((c.tc : Thread Cert.BandKernelIdeal.nD Cert.BandKernelIdeal.τ).loc Cert.BandKernelIdeal.main_v6_0) = v0 c
          ∧ r.2.mem ((c.tc : Thread Cert.BandKernelIdeal.nD Cert.BandKernelIdeal.τ).loc Cert.BandKernelIdeal.main_v6_1) = v1 c
          ∧ r.2.mem ((c.tc : Thread Cert.BandKernelIdeal.nD Cert.BandKernelIdeal.τ).loc Cert.BandKernelIdeal.main_v6_2) = v2 c
          ∧ r.2.mem ((c.tc : Thread Cert.BandKernelIdeal.nD Cert.BandKernelIdeal.τ).loc Cert.BandKernelIdeal.main_v6_3) = v3 c
          ∧ r.2.mem ((c.tc : Thread Cert.BandKernelIdeal.nD Cert.BandKernelIdeal.τ).loc Cert.BandKernelIdeal.main_v6_4) = v4 c
          ∧ r.2.mem ((c.tc : Thread Cert.BandKernelIdeal.nD Cert.BandKernelIdeal.τ).loc Cert.BandKernelIdeal.main_arg0) = m ((c.tc : Thread Cert.BandKernelIdeal.nD Cert.BandKernelIdeal.τ).loc Cert.BandKernelIdeal.main_arg0)
          ∧ r.2.mem ((c.tc : Thread Cert.BandKernelIdeal.nD Cert.BandKernelIdeal.τ).loc Cert.BandKernelIdeal.main_arg1) = m ((c.tc : Thread Cert.BandKernelIdeal.nD Cert.BandKernelIdeal.τ).loc Cert.BandKernelIdeal.main_arg1))
      ∧ θ_run (Cert.BandReferenceIdeal.defs (F := Ideal)) (onTc (τ := Cert.BandReferenceIdeal.τ) (Cert.BandReferenceIdeal.main (F := Ideal))) ⟨m', fun _ => 0, g'⟩ (fun r => ∀ c : Dev Cert.BandReferenceIdeal.nD,
          r.2.mem ((c.tc : Thread Cert.BandReferenceIdeal.nD Cert.BandReferenceIdeal.τ).loc Cert.BandReferenceIdeal.main_v12) = v0 c
          ∧ r.2.mem ((c.tc : Thread Cert.BandReferenceIdeal.nD Cert.BandReferenceIdeal.τ).loc Cert.BandReferenceIdeal.main_v14) = v1 c
          ∧ r.2.mem ((c.tc : Thread Cert.BandReferenceIdeal.nD Cert.BandReferenceIdeal.τ).loc Cert.BandReferenceIdeal.main_v10) = v2 c
          ∧ r.2.mem ((c.tc : Thread Cert.BandReferenceIdeal.nD Cert.BandReferenceIdeal.τ).loc Cert.BandReferenceIdeal.main_v15) = v3 c
          ∧ r.2.mem ((c.tc : Thread Cert.BandReferenceIdeal.nD Cert.BandReferenceIdeal.τ).loc Cert.BandReferenceIdeal.main_v16) = v4 c
          ∧ r.2.mem ((c.tc : Thread Cert.BandReferenceIdeal.nD Cert.BandReferenceIdeal.τ).loc Cert.BandReferenceIdeal.main_arg0) = m' ((c.tc : Thread Cert.BandReferenceIdeal.nD Cert.BandReferenceIdeal.τ).loc Cert.BandReferenceIdeal.main_arg0)
          ∧ r.2.mem ((c.tc : Thread Cert.BandReferenceIdeal.nD Cert.BandReferenceIdeal.τ).loc Cert.BandReferenceIdeal.main_arg1) = m' ((c.tc : Thread Cert.BandReferenceIdeal.nD Cert.BandReferenceIdeal.τ).loc Cert.BandReferenceIdeal.main_arg1))

def Claim : Prop :=
  ∃ (hKernel : Cert.Kernel.Facts) (hKernelIdeal : Cert.KernelIdeal.Facts) (hReferenceIdeal : Cert.ReferenceIdeal.Facts) (hBandKernel : Cert.BandKernel.Facts) (hBandKernelIdeal : Cert.BandKernelIdeal.Facts) (hBandReferenceIdeal : Cert.BandReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_BandKernel (hBandKernel := hBandKernel)
    ∧ quiescent_BandKernelIdeal (hBandKernelIdeal := hBandKernelIdeal)
    ∧ quiescent_BandReferenceIdeal (hBandReferenceIdeal := hBandReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_BandKernel_BandKernelIdeal
    ∧ algebraic_BandKernelIdeal_BandReferenceIdeal (hBandKernelIdeal := hBandKernelIdeal) (hBandReferenceIdeal := hBandReferenceIdeal)
-- ==== Pre_finite_scores.lean ====
abbrev S8x4096x8x192 : Shape := ⟨4, ![8, 4096, 8, 192]⟩
abbrev S8x4096x8x128 : Shape := ⟨4, ![8, 4096, 8, 128]⟩
abbrev S_ : Shape := ⟨0, ![]⟩

class Facts : Prop where
  bcast_S_S8x4096x8x192 : S_.BroadcastsInDim S8x4096x8x192 (![] : Fin 0 → Fin S8x4096x8x192.rank)

variable [Facts]

def fn {F : FTy → Type} [FloatOps F] (main_arg0 : FVec F S8x4096x8x192 .f32) (main_arg1 : FVec F S8x4096x8x192 .f32) (main_arg2 : FVec F S8x4096x8x128 .f32) : IVec S8x4096x8x192 1 × IVec S8x4096x8x192 1 :=
  let main_v0 : FVec F S8x4096x8x192 .f32 := Host.absf main_arg0
  let main_cst : FVec F S_ .f32 := constant S_ .f32 0x7F800000#32
  let main_v1 : FVec F S8x4096x8x192 .f32 := broadcastInDim S8x4096x8x192 ![] bcast_S_S8x4096x8x192 main_cst
  let main_v2 : IVec S8x4096x8x192 1 := cmpf .olt main_v0 main_v1
  let main_v3 : FVec F S8x4096x8x192 .f32 := Host.absf main_arg1
  let main_cst_0 : FVec F S_ .f32 := constant S_ .f32 0x7F800000#32
  let main_v4 : FVec F S8x4096x8x192 .f32 := broadcastInDim S8x4096x8x192 ![] bcast_S_S8x4096x8x192 main_cst_0
  let main_v5 : IVec S8x4096x8x192 1 := cmpf .olt main_v3 main_v4
  (main_v2, main_v5)
-- ==== Kernel.lean ====
abbrev S8x4096x8x192 : Shape := ⟨4, ![8, 4096, 8, 192]⟩
abbrev S8x4096x8x128 : Shape := ⟨4, ![8, 4096, 8, 128]⟩
abbrev S20 : Shape := ⟨1, ![20]⟩
abbrev S_ : Shape := ⟨0, ![]⟩
abbrev S8x4096x8x64 : Shape := ⟨4, ![8, 4096, 8, 64]⟩
abbrev S8x4096x8x32 : Shape := ⟨4, ![8, 4096, 8, 32]⟩
abbrev S8x4096x8x256 : Shape := ⟨4, ![8, 4096, 8, 256]⟩
abbrev S32768x2048 : Shape := ⟨2, ![32768, 2048]⟩
abbrev S64x512x8x128 : Shape := ⟨4, ![64, 512, 8, 128]⟩
abbrev S64x8x128x512 : Shape := ⟨4, ![64, 8, 128, 512]⟩
abbrev S64x8x16x512 : Shape := ⟨4, ![64, 8, 16, 512]⟩
abbrev S64x8x144x512 : Shape := ⟨4, ![64, 8, 144, 512]⟩
abbrev S64x1152x512 : Shape := ⟨3, ![64, 1152, 512]⟩
abbrev S32768x1024 : Shape := ⟨2, ![32768, 1024]⟩
abbrev S4096x256 : Shape := ⟨2, ![4096, 256]⟩
abbrev S8x144x512 : Shape := ⟨3, ![8, 144, 512]⟩
abbrev S4096x128 : Shape := ⟨2, ![4096, 128]⟩
abbrev S1x1024 : Shape := ⟨2, ![1, 1024]⟩
abbrev S144x1024 : Shape := ⟨2, ![144, 1024]⟩
abbrev S512x1024 : Shape := ⟨2, ![512, 1024]⟩
abbrev S512x512 : Shape := ⟨2, ![512, 512]⟩
abbrev S1 : Shape := ⟨1, ![1]⟩
abbrev S512x256 : Shape := ⟨2, ![512, 256]⟩
abbrev S1024x256 : Shape := ⟨2, ![1024, 256]⟩
abbrev S1024 : Shape := ⟨1, ![1024]⟩
abbrev S1x144x512 : Shape := ⟨3, ![1, 144, 512]⟩
abbrev S144x512 : Shape := ⟨2, ![144, 512]⟩
abbrev S512 : Shape := ⟨1, ![512]⟩
abbrev S1x512 : Shape := ⟨2, ![1, 512]⟩
abbrev S128x1024 : Shape := ⟨2, ![128, 1024]⟩
abbrev S1024x128 : Shape := ⟨2, ![1024, 128]⟩

abbrev nBuf : Space → Nat
  | .hbm => 40
  | .vmem => 14
  | .smem => 2
  | _ => 0

abbrev bufTy : (tb : Table) → Fin (tcTables nBuf tb) → BufTy
  | .hbm, ⟨0, _⟩ => ⟨S8x4096x8x192, .f32⟩
  | .hbm, ⟨1, _⟩ => ⟨S8x4096x8x192, .f32⟩
  | .hbm, ⟨2, _⟩ => ⟨S8x4096x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x8x128, .f32⟩
  | .hbm, ⟨11, _⟩ => ⟨S8x4096x8x64, .f32⟩
  | .hbm, ⟨12, _⟩ => ⟨S_, .f32⟩
  | .hbm, ⟨13, _⟩ => ⟨S8x4096x8x32, .f32⟩
  | .hbm, ⟨14, _⟩ => ⟨S8x4096x8x32, .f32⟩
  | .hbm, ⟨15, _⟩ => ⟨S8x4096x8x32, .f32⟩
  | .hbm, ⟨16, _⟩ => ⟨S8x4096x8x128, .f32⟩
  | .hbm, ⟨17, _⟩ => ⟨S8x4096x8x256, .f32⟩
  | .hbm, ⟨18, _⟩ => ⟨S8x4096x8x256, .f32⟩
  | .hbm, ⟨19, _⟩ => ⟨S8x4096x8x256, .f32⟩
  | .hbm, ⟨20, _⟩ => ⟨S32768x2048, .f32⟩
  | .hbm, ⟨21, _⟩ => ⟨S32768x2048, .bf16⟩
  | .hbm, ⟨22, _⟩ => ⟨S8x4096x8x128, .f32⟩
  | .hbm, ⟨23, _⟩ => ⟨S8x4096x8x64, .f32⟩
  | .hbm, ⟨24, _⟩ => ⟨S_, .f32⟩
  | .hbm, ⟨25, _⟩ => ⟨S8x4096x8x32, .f32⟩
  | .hbm, ⟨26, _⟩ => ⟨S8x4096x8x32, .f32⟩
  | .hbm, ⟨27, _⟩ => ⟨S8x4096x8x32, .f32⟩
  | .hbm, ⟨28, _⟩ => ⟨S8x4096x8x128, .f32⟩
  | .hbm, ⟨29, _⟩ => ⟨S8x4096x8x256, .f32⟩
  | .hbm, ⟨30, _⟩ => ⟨S32768x2048, .f32⟩
  | .hbm, ⟨31, _⟩ => ⟨S32768x2048, .bf16⟩
  | .hbm, ⟨32, _⟩ => ⟨S64x512x8x128, .f32⟩
  | .hbm, ⟨33, _⟩ => ⟨S64x8x128x512, .f32⟩
  | .hbm, ⟨34, _⟩ => ⟨S_, .f32⟩
  | .hbm, ⟨35, _⟩ => ⟨S64x8x16x512, .f32⟩
  | .hbm, ⟨36, _⟩ => ⟨S64x8x144x512, .f32⟩
  | .hbm, ⟨37, _⟩ => ⟨S64x1152x512, .f32⟩
  | .hbm, ⟨38, _⟩ => ⟨S64x1152x512, .bf16⟩
  | .hbm, ⟨39, _⟩ => ⟨S32768x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S8x144x512, .bf16⟩
  | .local _ .vmem, ⟨5, _⟩ => ⟨S8x144x512, .bf16⟩
  | .local _ .vmem, ⟨6, _⟩ => ⟨S4096x128, .bf16⟩
  | .local _ .vmem, ⟨7, _⟩ => ⟨S4096x128, .bf16⟩
  | .local _ .vmem, ⟨8, _⟩ => ⟨S1x1024, .f32⟩
  | .local _ .vmem, ⟨9, _⟩ => ⟨S144x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .smem, ⟨0, _⟩ => ⟨S20, .i32⟩
  | .local _ .smem, ⟨1, _⟩ => ⟨S20, .i32⟩
  | _, _ => ⟨S8x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 : Fin 1 → Nat :=
  let c0_i32_15 : BitVec 32 := 0#32
  let c19_i32 : BitVec 32 := 19#32
  let v59 : BitVec 32 := Scalar.minsi c0_i32_15 c19_i32
  let v60 : Index := Scalar.indexCast v59
  ![v60.toNat]
def k0_mult1 (v61 : BitVec 32) : BitVec 32 :=
  let c1024_i32 : BitVec 32 := 1024#32
  let v62 : BitVec 32 := Scalar.muli v61 c1024_i32
  let c0_i32_16 : BitVec 32 := 0#32
  let v63 : BitVec 32 := Scalar.addi v62 c0_i32_16
  v63

def k0_off2 : Fin 1 → Nat :=
  let c0_i32_15 : BitVec 32 := 0#32
  let c19_i32 : BitVec 32 := 19#32
  let v59 : BitVec 32 := Scalar.minsi c0_i32_15 c19_i32
  let v65 : Index := Scalar.indexCast v59
  ![v65.toNat]
def k0_mult2 (v66 : BitVec 32) : BitVec 32 :=
  let c512_i32 : BitVec 32 := 512#32
  let v67 : BitVec 32 := Scalar.muli v66 c512_i32
  v67

def k0_off3 (v66 : BitVec 32) : Fin 2 → Nat :=
  let c512_i32 : BitVec 32 := 512#32
  let v67 : BitVec 32 := Scalar.muli v66 c512_i32
  let v68 : BitVec 32 := v67
  let v69 : Index := Scalar.indexCast v68
  let c0_17 : Index := 0#32
  ![v69.toNat, 0]

def k0_chk2 (v66 : BitVec 32) : Prop :=
  (512 ∣ (k0_mult2 v66).toNat) ∧
  (∀ a, (k0_off3 v66) a + S512x256.size a ≤ S4096x256.size a)
theorem k0_mult2_dvd : ∀ (v66 : BitVec 32) (k0_hw2 : k0_chk2 v66), 512 ∣ (k0_mult2 v66).toNat := fun v66 k0_hw2 => k0_hw2.1
theorem k0_off3_inb : ∀ (v66 : BitVec 32) (k0_hw2 : k0_chk2 v66), ∀ a, (k0_off3 v66) a + S512x256.size a ≤ S4096x256.size a := fun v66 k0_hw2 => k0_hw2.2

def k0_off4 (v61 : BitVec 32) : Fin 2 → Nat :=
  let c1024_i32 : BitVec 32 := 1024#32
  let v62 : BitVec 32 := Scalar.muli v61 c1024_i32
  let c0_i32_16 : BitVec 32 := 0#32
  let v63 : BitVec 32 := Scalar.addi v62 c0_i32_16
  let v64 : BitVec 32 := v63
  let v72 : Index := Scalar.indexCast v64
  let c0_18 : Index := 0#32
  ![v72.toNat, 0]

def k0_chk1 (v61 : BitVec 32) : Prop :=
  (512 ∣ (k0_mult1 v61).toNat) ∧
  (∀ a, (k0_off4 v61) a + S1024x256.size a ≤ S4096x256.size a)
theorem k0_mult1_dvd : ∀ (v61 : BitVec 32) (k0_hw1 : k0_chk1 v61), 512 ∣ (k0_mult1 v61).toNat := fun v61 k0_hw1 => k0_hw1.1
theorem k0_off4_inb : ∀ (v61 : BitVec 32) (k0_hw1 : k0_chk1 v61), ∀ a, (k0_off4 v61) a + S1024x256.size a ≤ S4096x256.size a := fun v61 k0_hw1 => k0_hw1.2

@[reducible] def k0_t1_loop : Scf.Loop 32 :=
  let c0_i32_25 : BitVec 32 := 0#32
  let c10_i32 : BitVec 32 := 10#32
  let v84 : BitVec 32 := Scalar.addi c0_i32_25 c10_i32
  let c1_i32_26 : BitVec 32 := 1#32
  ⟨c0_i32_25, v84, c1_i32_26⟩
def k0_off5 (k0_t1 : Fin k0_t1_loop.trips) : Fin 1 → Nat :=
  let c2_i32 : BitVec 32 := 2#32
  let c0_i32_25 : BitVec 32 := 0#32
  let c1_i32_26 : BitVec 32 := 1#32
  let arg14 : BitVec 32 := Scf.iv c0_i32_25 c1_i32_26 k0_t1
  let v85 : BitVec 32 := Scalar.muli c2_i32 arg14
  let v86 : Index := Scalar.indexCast v85
  ![v86.toNat]
def k0_off6 (k0_t1 : Fin k0_t1_loop.trips) : Fin 1 → Nat :=
  let c2_i32 : BitVec 32 := 2#32
  let c0_i32_25 : BitVec 32 := 0#32
  let c1_i32_26 : BitVec 32 := 1#32
  let arg14 : BitVec 32 := Scf.iv c0_i32_25 c1_i32_26 k0_t1
  let v85 : BitVec 32 := Scalar.muli c2_i32 arg14
  let c1_i32_44 : BitVec 32 := 1#32
  let v122 : BitVec 32 := Scalar.addi v85 c1_i32_44
  let c19_i32_45 : BitVec 32 := 19#32
  let v123 : BitVec 32 := Scalar.minsi v122 c19_i32_45
  let v124 : Index := Scalar.indexCast v123
  ![v124.toNat]
def k0_mult3 (v125 : BitVec 32) : BitVec 32 :=
  let c1024_i32_46 : BitVec 32 := 1024#32
  let v126 : BitVec 32 := Scalar.muli v125 c1024_i32_46
  let c0_i32_47 : BitVec 32 := 0#32
  let v127 : BitVec 32 := Scalar.addi v126 c0_i32_47
  v127
def k0_cond1 (v87 : BitVec 32) (v89 : BitVec 32) : BitVec 1 :=
  let c2_i32_28 : BitVec 32 := 2#32
  let v90 : BitVec 32 := Scalar.muli c2_i32_28 v87
  let v91 : BitVec 1 := Scalar.cmpi .slt v89 v90
  let v92 : BitVec 32 := Scalar.extui v91
  let c0_i32_29 : BitVec 32 := 0#32
  let v93 : BitVec 1 := Scalar.cmpi .ne v92 c0_i32_29
  v93

def k0_off7 (k0_t1 : Fin k0_t1_loop.trips) : Fin 1 → Nat :=
  let c2_i32 : BitVec 32 := 2#32
  let c0_i32_25 : BitVec 32 := 0#32
  let c1_i32_26 : BitVec 32 := 1#32
  let arg14 : BitVec 32 := Scf.iv c0_i32_25 c1_i32_26 k0_t1
  let v85 : BitVec 32 := Scalar.muli c2_i32 arg14
  let c1_i32_44 : BitVec 32 := 1#32
  let v122 : BitVec 32 := Scalar.addi v85 c1_i32_44
  let c19_i32_45 : BitVec 32 := 19#32
  let v123 : BitVec 32 := Scalar.minsi v122 c19_i32_45
  let v129 : Index := Scalar.indexCast v123
  ![v129.toNat]
def k0_mult4 (v130 : BitVec 32) : BitVec 32 :=
  let c512_i32_48 : BitVec 32 := 512#32
  let v131 : BitVec 32 := Scalar.muli v130 c512_i32_48
  v131

def k0_off8 (v130 : BitVec 32) : Fin 2 → Nat :=
  let c512_i32_48 : BitVec 32 := 512#32
  let v131 : BitVec 32 := Scalar.muli v130 c512_i32_48
  let v132 : BitVec 32 := v131
  let v133 : Index := Scalar.indexCast v132
  let c0_49 : Index := 0#32
  ![v133.toNat, 0]

def k0_chk4 (v87 : BitVec 32) (v89 : BitVec 32) (v130 : BitVec 32) : Prop :=
  (∀ (k0_h1 : k0_cond1 v87 v89 = 1#1), 512 ∣ (k0_mult4 v130).toNat) ∧
  (∀ (k0_h1 : k0_cond1 v87 v89 = 1#1), ∀ a, (k0_off8 v130) a + S512x256.size a ≤ S4096x256.size a)
theorem k0_mult4_dvd : ∀ (v87 : BitVec 32) (v89 : BitVec 32) (v130 : BitVec 32) (k0_hw4 : k0_chk4 v87 v89 v130), ∀ (k0_h1 : k0_cond1 v87 v89 = 1#1), 512 ∣ (k0_mult4 v130).toNat := fun v87 v89 v130 k0_hw4 k0_h1 => k0_hw4.1 k0_h1
theorem k0_off8_inb : ∀ (v87 : BitVec 32) (v89 : BitVec 32) (v130 : BitVec 32) (k0_hw4 : k0_chk4 v87 v89 v130), ∀ (k0_h1 : k0_cond1 v87 v89 = 1#1), ∀ a, (k0_off8 v130) a + S512x256.size a ≤ S4096x256.size a := fun v87 v89 v130 k0_hw4 k0_h1 => k0_hw4.2 k0_h1

def k0_off9 (v125 : BitVec 32) : Fin 2 → Nat :=
  let c1024_i32_46 : BitVec 32 := 1024#32
  let v126 : BitVec 32 := Scalar.muli v125 c1024_i32_46
  let c0_i32_47 : BitVec 32 := 0#32
  let v127 : BitVec 32 := Scalar.addi v126 c0_i32_47
  let v128 : BitVec 32 := v127
  let v136 : Index := Scalar.indexCast v128
  let c0_50 : Index := 0#32
  ![v136.toNat, 0]

def k0_chk3 (v87 : BitVec 32) (v89 : BitVec 32) (v125 : BitVec 32) : Prop :=
  (∀ (k0_h1 : k0_cond1 v87 v89 = 1#1), 512 ∣ (k0_mult3 v125).toNat) ∧
  (∀ (k0_h1 : k0_cond1 v87 v89 = 1#1), ∀ a, (k0_off9 v125) a + S1024x256.size a ≤ S4096x256.size a)
theorem k0_mult3_dvd : ∀ (v87 : BitVec 32) (v89 : BitVec 32) (v125 : BitVec 32) (k0_hw3 : k0_chk3 v87 v89 v125), ∀ (k0_h1 : k0_cond1 v87 v89 = 1#1), 512 ∣ (k0_mult3 v125).toNat := fun v87 v89 v125 k0_hw3 k0_h1 => k0_hw3.1 k0_h1
theorem k0_off9_inb : ∀ (v87 : BitVec 32) (v89 : BitVec 32) (v125 : BitVec 32) (k0_hw3 : k0_chk3 v87 v89 v125), ∀ (k0_h1 : k0_cond1 v87 v89 = 1#1), ∀ a, (k0_off9 v125) a + S1024x256.size a ≤ S4096x256.size a := fun v87 v89 v125 k0_hw3 k0_h1 => k0_hw3.2 k0_h1

def k0_off10 (v89 : BitVec 32) : Fin 3 → Nat :=
  let v160 : Index := Scalar.indexCast v89
  let c0_65 : Index := 0#32
  let c0_66 : Index := 0#32
  ![v160.toNat, 0, 0]

def k0_off11 (k0_t1 : Fin k0_t1_loop.trips) : Fin 1 → Nat :=
  let c2_i32 : BitVec 32 := 2#32
  let c0_i32_25 : BitVec 32 := 0#32
  let c1_i32_26 : BitVec 32 := 1#32
  let arg14 : BitVec 32 := Scf.iv c0_i32_25 c1_i32_26 k0_t1
  let v85 : BitVec 32 := Scalar.muli c2_i32 arg14
  let c1_i32_44 : BitVec 32 := 1#32
  let v122 : BitVec 32 := Scalar.addi v85 c1_i32_44
  let c19_i32_45 : BitVec 32 := 19#32
  let v123 : BitVec 32 := Scalar.minsi v122 c19_i32_45
  let v124 : Index := Scalar.indexCast v123
  ![v124.toNat]
def k0_mult5 (v125 : BitVec 32) : BitVec 32 :=
  let c1024_i32_46 : BitVec 32 := 1024#32
  let v126 : BitVec 32 := Scalar.muli v125 c1024_i32_46
  let c512_i32_47 : BitVec 32 := 512#32
  let v127 : BitVec 32 := Scalar.addi v126 c512_i32_47
  v127
def k0_cond2 (v87 : BitVec 32) (v89 : BitVec 32) : BitVec 1 :=
  let c2_i32_30 : BitVec 32 := 2#32
  let v94 : BitVec 32 := Scalar.muli c2_i32_30 v87
  let v95 : BitVec 1 := Scalar.cmpi .eq v89 v94
  let v96 : BitVec 32 := Scalar.extui v95
  let c0_i32_31 : BitVec 32 := 0#32
  let v97 : BitVec 1 := Scalar.cmpi .ne v96 c0_i32_31
  v97

def k0_off12 (k0_t1 : Fin k0_t1_loop.trips) : Fin 1 → Nat :=
  let c2_i32 : BitVec 32 := 2#32
  let c0_i32_25 : BitVec 32 := 0#32
  let c1_i32_26 : BitVec 32 := 1#32
  let arg14 : BitVec 32 := Scf.iv c0_i32_25 c1_i32_26 k0_t1
  let v85 : BitVec 32 := Scalar.muli c2_i32 arg14
  let c1_i32_44 : BitVec 32 := 1#32
  let v122 : BitVec 32 := Scalar.addi v85 c1_i32_44
  let c19_i32_45 : BitVec 32 := 19#32
  let v123 : BitVec 32 := Scalar.minsi v122 c19_i32_45
  let v129 : Index := Scalar.indexCast v123
  ![v129.toNat]
def k0_mult6 (v130 : BitVec 32) : BitVec 32 :=
  let c512_i32_48 : BitVec 32 := 512#32
  let v131 : BitVec 32 := Scalar.muli v130 c512_i32_48
  v131

def k0_off13 (v130 : BitVec 32) : Fin 2 → Nat :=
  let c512_i32_48 : BitVec 32 := 512#32
  let v131 : BitVec 32 := Scalar.muli v130 c512_i32_48
  let v132 : BitVec 32 := v131
  let v133 : Index := Scalar.indexCast v132
  let c0_49 : Index := 0#32
  ![v133.toNat, 0]

def k0_chk7 (v87 : BitVec 32) (v89 : BitVec 32) (v130 : BitVec 32) : Prop :=
  (∀ (k0_h2 : k0_cond2 v87 v89 = 1#1), 512 ∣ (k0_mult6 v130).toNat) ∧
  (∀ (k0_h2 : k0_cond2 v87 v89 = 1#1), ∀ a, (k0_off13 v130) a + S512x256.size a ≤ S4096x256.size a)
theorem k0_mult6_dvd : ∀ (v87 : BitVec 32) (v89 : BitVec 32) (v130 : BitVec 32) (k0_hw7 : k0_chk7 v87 v89 v130), ∀ (k0_h2 : k0_cond2 v87 v89 = 1#1), 512 ∣ (k0_mult6 v130).toNat := fun v87 v89 v130 k0_hw7 k0_h2 => k0_hw7.1 k0_h2
theorem k0_off13_inb : ∀ (v87 : BitVec 32) (v89 : BitVec 32) (v130 : BitVec 32) (k0_hw7 : k0_chk7 v87 v89 v130), ∀ (k0_h2 : k0_cond2 v87 v89 = 1#1), ∀ a, (k0_off13 v130) a + S512x256.size a ≤ S4096x256.size a := fun v87 v89 v130 k0_hw7 k0_h2 => k0_hw7.2 k0_h2

def k0_off14 (v125 : BitVec 32) : Fin 2 → Nat :=
  let c1024_i32_46 : BitVec 32 := 1024#32
  let v126 : BitVec 32 := Scalar.muli v125 c1024_i32_46
  let c512_i32_47 : BitVec 32 := 512#32
  let v127 : BitVec 32 := Scalar.addi v126 c512_i32_47
  let v128 : BitVec 32 := v127
  let v136 : Index := Scalar.indexCast v128
  let c0_50 : Index := 0#32
  ![v136.toNat, 0]

def k0_chk6 (v87 : BitVec 32) (v89 : BitVec 32) (v125 : BitVec 32) : Prop :=
  (∀ (k0_h2 : k0_cond2 v87 v89 = 1#1), 512 ∣ (k0_mult5 v125).toNat) ∧
  (∀ (k0_h2 : k0_cond2 v87 v89 = 1#1), ∀ a, (k0_off14 v125) a + S512x256.size a ≤ S4096x256.size a)
theorem k0_mult5_dvd : ∀ (v87 : BitVec 32) (v89 : BitVec 32) (v125 : BitVec 32) (k0_hw6 : k0_chk6 v87 v89 v125), ∀ (k0_h2 : k0_cond2 v87 v89 = 1#1), 512 ∣ (k0_mult5 v125).toNat := fun v87 v89 v125 k0_hw6 k0_h2 => k0_hw6.1 k0_h2
theorem k0_off14_inb : ∀ (v87 : BitVec 32) (v89 : BitVec 32) (v125 : BitVec 32) (k0_hw6 : k0_chk6 v87 v89 v125), ∀ (k0_h2 : k0_cond2 v87 v89 = 1#1), ∀ a, (k0_off14 v125) a + S512x256.size a ≤ S4096x256.size a := fun v87 v89 v125 k0_hw6 k0_h2 => k0_hw6.2 k0_h2

def k0_off15 (v89 : BitVec 32) : Fin 3 → Nat :=
  let v163 : Index := Scalar.indexCast v89
  let c0_64 : Index := 0#32
  let c0_65 : Index := 0#32
  ![v163.toNat, 0, 0]
def k0_off16 (k0_t1 : Fin k0_t1_loop.trips) : Fin 1 → Nat :=
  let c2_i32 : BitVec 32 := 2#32
  let c0_i32_25 : BitVec 32 := 0#32
  let c1_i32_26 : BitVec 32 := 1#32
  let arg14 : BitVec 32 := Scf.iv c0_i32_25 c1_i32_26 k0_t1
  let v85 : BitVec 32 := Scalar.muli c2_i32 arg14
  let c1_i32_44 : BitVec 32 := 1#32
  let v122 : BitVec 32 := Scalar.addi v85 c1_i32_44
  let c19_i32_45 : BitVec 32 := 19#32
  let v123 : BitVec 32 := Scalar.minsi v122 c19_i32_45
  let v124 : Index := Scalar.indexCast v123
  ![v124.toNat]
def k0_mult7 (v125 : BitVec 32) : BitVec 32 :=
  let c1024_i32_46 : BitVec 32 := 1024#32
  let v126 : BitVec 32 := Scalar.muli v125 c1024_i32_46
  let c0_i32_47 : BitVec 32 := 0#32
  let v127 : BitVec 32 := Scalar.addi v126 c0_i32_47
  v127
def k0_cond3 (v87 : BitVec 32) (v89 : BitVec 32) : BitVec 1 :=
  let c2_i32_32 : BitVec 32 := 2#32
  let v98 : BitVec 32 := Scalar.muli c2_i32_32 v87
  let c1_i32_33 : BitVec 32 := 1#32
  let v99 : BitVec 32 := Scalar.addi v98 c1_i32_33
  let v100 : BitVec 1 := Scalar.cmpi .eq v89 v99
  let v101 : BitVec 32 := Scalar.extui v100
  let c0_i32_34 : BitVec 32 := 0#32
  let v102 : BitVec 1 := Scalar.cmpi .ne v101 c0_i32_34
  v102

def k0_off17 (k0_t1 : Fin k0_t1_loop.trips) : Fin 1 → Nat :=
  let c2_i32 : BitVec 32 := 2#32
  let c0_i32_25 : BitVec 32 := 0#32
  let c1_i32_26 : BitVec 32 := 1#32
  let arg14 : BitVec 32 := Scf.iv c0_i32_25 c1_i32_26 k0_t1
  let v85 : BitVec 32 := Scalar.muli c2_i32 arg14
  let c1_i32_44 : BitVec 32 := 1#32
  let v122 : BitVec 32 := Scalar.addi v85 c1_i32_44
  let c19_i32_45 : BitVec 32 := 19#32
  let v123 : BitVec 32 := Scalar.minsi v122 c19_i32_45
  let v129 : Index := Scalar.indexCast v123
  ![v129.toNat]
def k0_mult8 (v130 : BitVec 32) : BitVec 32 :=
  let c512_i32_48 : BitVec 32 := 512#32
  let v131 : BitVec 32 := Scalar.muli v130 c512_i32_48
  v131

def k0_off18 (v130 : BitVec 32) : Fin 2 → Nat :=
  let c512_i32_48 : BitVec 32 := 512#32
  let v131 : BitVec 32 := Scalar.muli v130 c512_i32_48
  let v132 : BitVec 32 := v131
  let v133 : Index := Scalar.indexCast v132
  let c0_49 : Index := 0#32
  ![v133.toNat, 0]

def k0_chk9 (v87 : BitVec 32) (v89 : BitVec 32) (v130 : BitVec 32) : Prop :=
  (∀ (k0_h3 : k0_cond3 v87 v89 = 1#1), 512 ∣ (k0_mult8 v130).toNat) ∧
  (∀ (k0_h3 : k0_cond3 v87 v89 = 1#1), ∀ a, (k0_off18 v130) a + S512x256.size a ≤ S4096x256.size a)
theorem k0_mult8_dvd : ∀ (v87 : BitVec 32) (v89 : BitVec 32) (v130 : BitVec 32) (k0_hw9 : k0_chk9 v87 v89 v130), ∀ (k0_h3 : k0_cond3 v87 v89 = 1#1), 512 ∣ (k0_mult8 v130).toNat := fun v87 v89 v130 k0_hw9 k0_h3 => k0_hw9.1 k0_h3
theorem k0_off18_inb : ∀ (v87 : BitVec 32) (v89 : BitVec 32) (v130 : BitVec 32) (k0_hw9 : k0_chk9 v87 v89 v130), ∀ (k0_h3 : k0_cond3 v87 v89 = 1#1), ∀ a, (k0_off18 v130) a + S512x256.size a ≤ S4096x256.size a := fun v87 v89 v130 k0_hw9 k0_h3 => k0_hw9.2 k0_h3

def k0_off19 (v125 : BitVec 32) : Fin 2 → Nat :=
  let c1024_i32_46 : BitVec 32 := 1024#32
  let v126 : BitVec 32 := Scalar.muli v125 c1024_i32_46
  let c0_i32_47 : BitVec 32 := 0#32
  let v127 : BitVec 32 := Scalar.addi v126 c0_i32_47
  let v128 : BitVec 32 := v127
  let v136 : Index := Scalar.indexCast v128
  let c0_50 : Index := 0#32
  ![v136.toNat, 0]

def k0_chk8 (v87 : BitVec 32) (v89 : BitVec 32) (v125 : BitVec 32) : Prop :=
  (∀ (k0_h3 : k0_cond3 v87 v89 = 1#1), 512 ∣ (k0_mult7 v125).toNat) ∧
  (∀ (k0_h3 : k0_cond3 v87 v89 = 1#1), ∀ a, (k0_off19 v125) a + S1024x256.size a ≤ S4096x256.size a)
theorem k0_mult7_dvd : ∀ (v87 : BitVec 32) (v89 : BitVec 32) (v125 : BitVec 32) (k0_hw8 : k0_chk8 v87 v89 v125), ∀ (k0_h3 : k0_cond3 v87 v89 = 1#1), 512 ∣ (k0_mult7 v125).toNat := fun v87 v89 v125 k0_hw8 k0_h3 => k0_hw8.1 k0_h3
theorem k0_off19_inb : ∀ (v87 : BitVec 32) (v89 : BitVec 32) (v125 : BitVec 32) (k0_hw8 : k0_chk8 v87 v89 v125), ∀ (k0_h3 : k0_cond3 v87 v89 = 1#1), ∀ a, (k0_off19 v125) a + S1024x256.size a ≤ S4096x256.size a := fun v87 v89 v125 k0_hw8 k0_h3 => k0_hw8.2 k0_h3

def k0_off20 (v89 : BitVec 32) : Fin 3 → Nat :=
  let v163 : Index := Scalar.indexCast v89
  let c0_64 : Index := 0#32
  let c0_65 : Index := 0#32
  ![v163.toNat, 0, 0]
def k0_mult9 (v87 : BitVec 32) : BitVec 32 :=
  let c1024_i32_71 : BitVec 32 := 1024#32
  let v175 : BitVec 32 := Scalar.muli v87 c1024_i32_71
  v175
def k0_off21 (v87 : BitVec 32) : Fin 2 → Nat :=
  let c1024_i32_71 : BitVec 32 := 1024#32
  let v175 : BitVec 32 := Scalar.muli v87 c1024_i32_71
  let v176 : BitVec 32 := v175
  let v184 : Index := Scalar.indexCast v176
  let c0_74 : Index := 0#32
  ![v184.toNat, 0]

def k0_chk5 (v87 : BitVec 32) (v89 : BitVec 32) : Prop :=
  (∀ (k0_h1 : k0_cond1 v87 v89 = 1#1), ∀ a, (k0_off10 v89) a + S1x144x512.size a ≤ S8x144x512.size a) ∧
  (∀ (k0_h2 : k0_cond2 v87 v89 = 1#1), ∀ a, (k0_off15 v89) a + S1x144x512.size a ≤ S8x144x512.size a) ∧
  (∀ (k0_h3 : k0_cond3 v87 v89 = 1#1), ∀ a, (k0_off20 v89) a + S1x144x512.size a ≤ S8x144x512.size a) ∧
  (∀ (k0_h3 : k0_cond3 v87 v89 = 1#1), 1024 ∣ (k0_mult9 v87).toNat) ∧
  (∀ (k0_h3 : k0_cond3 v87 v89 = 1#1), ∀ a, (k0_off21 v87) a + S1024x128.size a ≤ S4096x128.size a) ∧
  (∀ (k0_h3 : k0_cond3 v87 v89 = 1#1), ∀ (hinb : ∀ a, (k0_off21 v87) a + S1024x128.size a ≤ S4096x128.size a), (Rect.unit (s := S4096x128) (k0_off21 v87) S1024x128.size hinb).PackedRows (EltTy.packing .bf16))
theorem k0_off10_inb : ∀ (v87 : BitVec 32) (v89 : BitVec 32) (k0_hw5 : k0_chk5 v87 v89), ∀ (k0_h1 : k0_cond1 v87 v89 = 1#1), ∀ a, (k0_off10 v89) a + S1x144x512.size a ≤ S8x144x512.size a := fun v87 v89 k0_hw5 k0_h1 => k0_hw5.1 k0_h1
theorem k0_off15_inb : ∀ (v87 : BitVec 32) (v89 : BitVec 32) (k0_hw5 : k0_chk5 v87 v89), ∀ (k0_h2 : k0_cond2 v87 v89 = 1#1), ∀ a, (k0_off15 v89) a + S1x144x512.size a ≤ S8x144x512.size a := fun v87 v89 k0_hw5 k0_h2 => k0_hw5.2.1 k0_h2
theorem k0_off20_inb : ∀ (v87 : BitVec 32) (v89 : BitVec 32) (k0_hw5 : k0_chk5 v87 v89), ∀ (k0_h3 : k0_cond3 v87 v89 = 1#1), ∀ a, (k0_off20 v89) a + S1x144x512.size a ≤ S8x144x512.size a := fun v87 v89 k0_hw5 k0_h3 => k0_hw5.2.2.1 k0_h3
theorem k0_mult9_dvd : ∀ (v87 : BitVec 32) (v89 : BitVec 32) (k0_hw5 : k0_chk5 v87 v89), ∀ (k0_h3 : k0_cond3 v87 v89 = 1#1), 1024 ∣ (k0_mult9 v87).toNat := fun v87 v89 k0_hw5 k0_h3 => k0_hw5.2.2.2.1 k0_h3
theorem k0_off21_inb : ∀ (v87 : BitVec 32) (v89 : BitVec 32) (k0_hw5 : k0_chk5 v87 v89), ∀ (k0_h3 : k0_cond3 v87 v89 = 1#1), ∀ a, (k0_off21 v87) a + S1024x128.size a ≤ S4096x128.size a := fun v87 v89 k0_hw5 k0_h3 => k0_hw5.2.2.2.2.1 k0_h3
theorem k0_off21_packedbf16 : ∀ (v87 : BitVec 32) (v89 : BitVec 32) (k0_hw5 : k0_chk5 v87 v89), ∀ (k0_h3 : k0_cond3 v87 v89 = 1#1), (Rect.unit (s := S4096x128) (k0_off21 v87) S1024x128.size (k0_off21_inb v87 v89 k0_hw5 k0_h3)).PackedRows (EltTy.packing .bf16) := fun v87 v89 k0_hw5 k0_h3 => k0_hw5.2.2.2.2.2 k0_h3 (k0_off21_inb v87 v89 k0_hw5 k0_h3)

def k0_off22 (k0_t1 : Fin k0_t1_loop.trips) : Fin 1 → Nat :=
  let c2_i32_35 : BitVec 32 := 2#32
  let c0_i32_25 : BitVec 32 := 0#32
  let c1_i32_26 : BitVec 32 := 1#32
  let arg14 : BitVec 32 := Scf.iv c0_i32_25 c1_i32_26 k0_t1
  let v103 : BitVec 32 := Scalar.muli c2_i32_35 arg14
  let c1_i32_36 : BitVec 32 := 1#32
  let v104 : BitVec 32 := Scalar.addi v103 c1_i32_36
  let v105 : Index := Scalar.indexCast v104
  ![v105.toNat]
def k0_off23 (k0_t1 : Fin k0_t1_loop.trips) : Fin 1 → Nat :=
  let c2_i32_35 : BitVec 32 := 2#32
  let c0_i32_25 : BitVec 32 := 0#32
  let c1_i32_26 : BitVec 32 := 1#32
  let arg14 : BitVec 32 := Scf.iv c0_i32_25 c1_i32_26 k0_t1
  let v103 : BitVec 32 := Scalar.muli c2_i32_35 arg14
  let c1_i32_36 : BitVec 32 := 1#32
  let v104 : BitVec 32 := Scalar.addi v103 c1_i32_36
  let c1_i32_44 : BitVec 32 := 1#32
  let v122 : BitVec 32 := Scalar.addi v104 c1_i32_44
  let c19_i32_45 : BitVec 32 := 19#32
  let v123 : BitVec 32 := Scalar.minsi v122 c19_i32_45
  let v124 : Index := Scalar.indexCast v123
  ![v124.toNat]
def k0_mult10 (v125 : BitVec 32) : BitVec 32 :=
  let c1024_i32_46 : BitVec 32 := 1024#32
  let v126 : BitVec 32 := Scalar.muli v125 c1024_i32_46
  let c0_i32_47 : BitVec 32 := 0#32
  let v127 : BitVec 32 := Scalar.addi v126 c0_i32_47
  v127
def k0_cond4 (v106 : BitVec 32) (v108 : BitVec 32) : BitVec 1 :=
  let c2_i32_37 : BitVec 32 := 2#32
  let v109 : BitVec 32 := Scalar.muli c2_i32_37 v106
  let v110 : BitVec 1 := Scalar.cmpi .slt v108 v109
  let v111 : BitVec 32 := Scalar.extui v110
  let c0_i32_38 : BitVec 32 := 0#32
  let v112 : BitVec 1 := Scalar.cmpi .ne v111 c0_i32_38
  v112

def k0_off24 (k0_t1 : Fin k0_t1_loop.trips) : Fin 1 → Nat :=
  let c2_i32_35 : BitVec 32 := 2#32
  let c0_i32_25 : BitVec 32 := 0#32
  let c1_i32_26 : BitVec 32 := 1#32
  let arg14 : BitVec 32 := Scf.iv c0_i32_25 c1_i32_26 k0_t1
  let v103 : BitVec 32 := Scalar.muli c2_i32_35 arg14
  let c1_i32_36 : BitVec 32 := 1#32
  let v104 : BitVec 32 := Scalar.addi v103 c1_i32_36
  let c1_i32_44 : BitVec 32 := 1#32
  let v122 : BitVec 32 := Scalar.addi v104 c1_i32_44
  let c19_i32_45 : BitVec 32 := 19#32
  let v123 : BitVec 32 := Scalar.minsi v122 c19_i32_45
  let v129 : Index := Scalar.indexCast v123
  ![v129.toNat]
def k0_mult11 (v130 : BitVec 32) : BitVec 32 :=
  let c512_i32_48 : BitVec 32 := 512#32
  let v131 : BitVec 32 := Scalar.muli v130 c512_i32_48
  v131

def k0_off25 (v130 : BitVec 32) : Fin 2 → Nat :=
  let c512_i32_48 : BitVec 32 := 512#32
  let v131 : BitVec 32 := Scalar.muli v130 c512_i32_48
  let v132 : BitVec 32 := v131
  let v133 : Index := Scalar.indexCast v132
  let c0_49 : Index := 0#32
  ![v133.toNat, 0]

def k0_chk11 (v106 : BitVec 32) (v108 : BitVec 32) (v130 : BitVec 32) : Prop :=
  (∀ (k0_h4 : k0_cond4 v106 v108 = 1#1), 512 ∣ (k0_mult11 v130).toNat) ∧
  (∀ (k0_h4 : k0_cond4 v106 v108 = 1#1), ∀ a, (k0_off25 v130) a + S512x256.size a ≤ S4096x256.size a)
theorem k0_mult11_dvd : ∀ (v106 : BitVec 32) (v108 : BitVec 32) (v130 : BitVec 32) (k0_hw11 : k0_chk11 v106 v108 v130), ∀ (k0_h4 : k0_cond4 v106 v108 = 1#1), 512 ∣ (k0_mult11 v130).toNat := fun v106 v108 v130 k0_hw11 k0_h4 => k0_hw11.1 k0_h4
theorem k0_off25_inb : ∀ (v106 : BitVec 32) (v108 : BitVec 32) (v130 : BitVec 32) (k0_hw11 : k0_chk11 v106 v108 v130), ∀ (k0_h4 : k0_cond4 v106 v108 = 1#1), ∀ a, (k0_off25 v130) a + S512x256.size a ≤ S4096x256.size a := fun v106 v108 v130 k0_hw11 k0_h4 => k0_hw11.2 k0_h4

def k0_off26 (v125 : BitVec 32) : Fin 2 → Nat :=
  let c1024_i32_46 : BitVec 32 := 1024#32
  let v126 : BitVec 32 := Scalar.muli v125 c1024_i32_46
  let c0_i32_47 : BitVec 32 := 0#32
  let v127 : BitVec 32 := Scalar.addi v126 c0_i32_47
  let v128 : BitVec 32 := v127
  let v136 : Index := Scalar.indexCast v128
  let c0_50 : Index := 0#32
  ![v136.toNat, 0]

def k0_chk10 (v106 : BitVec 32) (v108 : BitVec 32) (v125 : BitVec 32) : Prop :=
  (∀ (k0_h4 : k0_cond4 v106 v108 = 1#1), 512 ∣ (k0_mult10 v125).toNat) ∧
  (∀ (k0_h4 : k0_cond4 v106 v108 = 1#1), ∀ a, (k0_off26 v125) a + S1024x256.size a ≤ S4096x256.size a)
theorem k0_mult10_dvd : ∀ (v106 : BitVec 32) (v108 : BitVec 32) (v125 : BitVec 32) (k0_hw10 : k0_chk10 v106 v108 v125), ∀ (k0_h4 : k0_cond4 v106 v108 = 1#1), 512 ∣ (k0_mult10 v125).toNat := fun v106 v108 v125 k0_hw10 k0_h4 => k0_hw10.1 k0_h4
theorem k0_off26_inb : ∀ (v106 : BitVec 32) (v108 : BitVec 32) (v125 : BitVec 32) (k0_hw10 : k0_chk10 v106 v108 v125), ∀ (k0_h4 : k0_cond4 v106 v108 = 1#1), ∀ a, (k0_off26 v125) a + S1024x256.size a ≤ S4096x256.size a := fun v106 v108 v125 k0_hw10 k0_h4 => k0_hw10.2 k0_h4

def k0_off27 (v108 : BitVec 32) : Fin 3 → Nat :=
  let v160 : Index := Scalar.indexCast v108
  let c0_65 : Index := 0#32
  let c0_66 : Index := 0#32
  ![v160.toNat, 0, 0]

def k0_off28 (k0_t1 : Fin k0_t1_loop.trips) : Fin 1 → Nat :=
  let c2_i32_35 : BitVec 32 := 2#32
  let c0_i32_25 : BitVec 32 := 0#32
  let c1_i32_26 : BitVec 32 := 1#32
  let arg14 : BitVec 32 := Scf.iv c0_i32_25 c1_i32_26 k0_t1
  let v103 : BitVec 32 := Scalar.muli c2_i32_35 arg14
  let c1_i32_36 : BitVec 32 := 1#32
  let v104 : BitVec 32 := Scalar.addi v103 c1_i32_36
  let c1_i32_44 : BitVec 32 := 1#32
  let v122 : BitVec 32 := Scalar.addi v104 c1_i32_44
  let c19_i32_45 : BitVec 32 := 19#32
  let v123 : BitVec 32 := Scalar.minsi v122 c19_i32_45
  let v124 : Index := Scalar.indexCast v123
  ![v124.toNat]
def k0_mult12 (v125 : BitVec 32) : BitVec 32 :=
  let c1024_i32_46 : BitVec 32 := 1024#32
  let v126 : BitVec 32 := Scalar.muli v125 c1024_i32_46
  let c512_i32_47 : BitVec 32 := 512#32
  let v127 : BitVec 32 := Scalar.addi v126 c512_i32_47
  v127
def k0_cond5 (v106 : BitVec 32) (v108 : BitVec 32) : BitVec 1 :=
  let c2_i32_39 : BitVec 32 := 2#32
  let v113 : BitVec 32 := Scalar.muli c2_i32_39 v106
  let v114 : BitVec 1 := Scalar.cmpi .eq v108 v113
  let v115 : BitVec 32 := Scalar.extui v114
  let c0_i32_40 : BitVec 32 := 0#32
  let v116 : BitVec 1 := Scalar.cmpi .ne v115 c0_i32_40
  v116

def k0_off29 (k0_t1 : Fin k0_t1_loop.trips) : Fin 1 → Nat :=
  let c2_i32_35 : BitVec 32 := 2#32
  let c0_i32_25 : BitVec 32 := 0#32
  let c1_i32_26 : BitVec 32 := 1#32
  let arg14 : BitVec 32 := Scf.iv c0_i32_25 c1_i32_26 k0_t1
  let v103 : BitVec 32 := Scalar.muli c2_i32_35 arg14
  let c1_i32_36 : BitVec 32 := 1#32
  let v104 : BitVec 32 := Scalar.addi v103 c1_i32_36
  let c1_i32_44 : BitVec 32 := 1#32
  let v122 : BitVec 32 := Scalar.addi v104 c1_i32_44
  let c19_i32_45 : BitVec 32 := 19#32
  let v123 : BitVec 32 := Scalar.minsi v122 c19_i32_45
  let v129 : Index := Scalar.indexCast v123
  ![v129.toNat]
def k0_mult13 (v130 : BitVec 32) : BitVec 32 :=
  let c512_i32_48 : BitVec 32 := 512#32
  let v131 : BitVec 32 := Scalar.muli v130 c512_i32_48
  v131

def k0_off30 (v130 : BitVec 32) : Fin 2 → Nat :=
  let c512_i32_48 : BitVec 32 := 512#32
  let v131 : BitVec 32 := Scalar.muli v130 c512_i32_48
  let v132 : BitVec 32 := v131
  let v133 : Index := Scalar.indexCast v132
  let c0_49 : Index := 0#32
  ![v133.toNat, 0]

def k0_chk14 (v106 : BitVec 32) (v108 : BitVec 32) (v130 : BitVec 32) : Prop :=
  (∀ (k0_h5 : k0_cond5 v106 v108 = 1#1), 512 ∣ (k0_mult13 v130).toNat) ∧
  (∀ (k0_h5 : k0_cond5 v106 v108 = 1#1), ∀ a, (k0_off30 v130) a + S512x256.size a ≤ S4096x256.size a)
theorem k0_mult13_dvd : ∀ (v106 : BitVec 32) (v108 : BitVec 32) (v130 : BitVec 32) (k0_hw14 : k0_chk14 v106 v108 v130), ∀ (k0_h5 : k0_cond5 v106 v108 = 1#1), 512 ∣ (k0_mult13 v130).toNat := fun v106 v108 v130 k0_hw14 k0_h5 => k0_hw14.1 k0_h5
theorem k0_off30_inb : ∀ (v106 : BitVec 32) (v108 : BitVec 32) (v130 : BitVec 32) (k0_hw14 : k0_chk14 v106 v108 v130), ∀ (k0_h5 : k0_cond5 v106 v108 = 1#1), ∀ a, (k0_off30 v130) a + S512x256.size a ≤ S4096x256.size a := fun v106 v108 v130 k0_hw14 k0_h5 => k0_hw14.2 k0_h5

def k0_off31 (v125 : BitVec 32) : Fin 2 → Nat :=
  let c1024_i32_46 : BitVec 32 := 1024#32
  let v126 : BitVec 32 := Scalar.muli v125 c1024_i32_46
  let c512_i32_47 : BitVec 32 := 512#32
  let v127 : BitVec 32 := Scalar.addi v126 c512_i32_47
  let v128 : BitVec 32 := v127
  let v136 : Index := Scalar.indexCast v128
  let c0_50 : Index := 0#32
  ![v136.toNat, 0]

def k0_chk13 (v106 : BitVec 32) (v108 : BitVec 32) (v125 : BitVec 32) : Prop :=
  (∀ (k0_h5 : k0_cond5 v106 v108 = 1#1), 512 ∣ (k0_mult12 v125).toNat) ∧
  (∀ (k0_h5 : k0_cond5 v106 v108 = 1#1), ∀ a, (k0_off31 v125) a + S512x256.size a ≤ S4096x256.size a)
theorem k0_mult12_dvd : ∀ (v106 : BitVec 32) (v108 : BitVec 32) (v125 : BitVec 32) (k0_hw13 : k0_chk13 v106 v108 v125), ∀ (k0_h5 : k0_cond5 v106 v108 = 1#1), 512 ∣ (k0_mult12 v125).toNat := fun v106 v108 v125 k0_hw13 k0_h5 => k0_hw13.1 k0_h5
theorem k0_off31_inb : ∀ (v106 : BitVec 32) (v108 : BitVec 32) (v125 : BitVec 32) (k0_hw13 : k0_chk13 v106 v108 v125), ∀ (k0_h5 : k0_cond5 v106 v108 = 1#1), ∀ a, (k0_off31 v125) a + S512x256.size a ≤ S4096x256.size a := fun v106 v108 v125 k0_hw13 k0_h5 => k0_hw13.2 k0_h5

def k0_off32 (v108 : BitVec 32) : Fin 3 → Nat :=
  let v163 : Index := Scalar.indexCast v108
  let c0_64 : Index := 0#32
  let c0_65 : Index := 0#32
  ![v163.toNat, 0, 0]
def k0_off33 (k0_t1 : Fin k0_t1_loop.trips) : Fin 1 → Nat :=
  let c2_i32_35 : BitVec 32 := 2#32
  let c0_i32_25 : BitVec 32 := 0#32
  let c1_i32_26 : BitVec 32 := 1#32
  let arg14 : BitVec 32 := Scf.iv c0_i32_25 c1_i32_26 k0_t1
  let v103 : BitVec 32 := Scalar.muli c2_i32_35 arg14
  let c1_i32_36 : BitVec 32 := 1#32
  let v104 : BitVec 32 := Scalar.addi v103 c1_i32_36
  let c1_i32_44 : BitVec 32 := 1#32
  let v122 : BitVec 32 := Scalar.addi v104 c1_i32_44
  let c19_i32_45 : BitVec 32 := 19#32
  let v123 : BitVec 32 := Scalar.minsi v122 c19_i32_45
  let v124 : Index := Scalar.indexCast v123
  ![v124.toNat]
def k0_mult14 (v125 : BitVec 32) : BitVec 32 :=
  let c1024_i32_46 : BitVec 32 := 1024#32
  let v126 : BitVec 32 := Scalar.muli v125 c1024_i32_46
  let c0_i32_47 : BitVec 32 := 0#32
  let v127 : BitVec 32 := Scalar.addi v126 c0_i32_47
  v127
def k0_cond6 (v106 : BitVec 32) (v108 : BitVec 32) : BitVec 1 :=
  let c2_i32_41 : BitVec 32 := 2#32
  let v117 : BitVec 32 := Scalar.muli c2_i32_41 v106
  let c1_i32_42 : BitVec 32 := 1#32
  let v118 : BitVec 32 := Scalar.addi v117 c1_i32_42
  let v119 : BitVec 1 := Scalar.cmpi .eq v108 v118
  let v120 : BitVec 32 := Scalar.extui v119
  let c0_i32_43 : BitVec 32 := 0#32
  let v121 : BitVec 1 := Scalar.cmpi .ne v120 c0_i32_43
  v121

def k0_off34 (k0_t1 : Fin k0_t1_loop.trips) : Fin 1 → Nat :=
  let c2_i32_35 : BitVec 32 := 2#32
  let c0_i32_25 : BitVec 32 := 0#32
  let c1_i32_26 : BitVec 32 := 1#32
  let arg14 : BitVec 32 := Scf.iv c0_i32_25 c1_i32_26 k0_t1
  let v103 : BitVec 32 := Scalar.muli c2_i32_35 arg14
  let c1_i32_36 : BitVec 32 := 1#32
  let v104 : BitVec 32 := Scalar.addi v103 c1_i32_36
  let c1_i32_44 : BitVec 32 := 1#32
  let v122 : BitVec 32 := Scalar.addi v104 c1_i32_44
  let c19_i32_45 : BitVec 32 := 19#32
  let v123 : BitVec 32 := Scalar.minsi v122 c19_i32_45
  let v129 : Index := Scalar.indexCast v123
  ![v129.toNat]
def k0_mult15 (v130 : BitVec 32) : BitVec 32 :=
  let c512_i32_48 : BitVec 32 := 512#32
  let v131 : BitVec 32 := Scalar.muli v130 c512_i32_48
  v131

def k0_off35 (v130 : BitVec 32) : Fin 2 → Nat :=
  let c512_i32_48 : BitVec 32 := 512#32
  let v131 : BitVec 32 := Scalar.muli v130 c512_i32_48
  let v132 : BitVec 32 := v131
  let v133 : Index := Scalar.indexCast v132
  let c0_49 : Index := 0#32
  ![v133.toNat, 0]

def k0_chk16 (v106 : BitVec 32) (v108 : BitVec 32) (v130 : BitVec 32) : Prop :=
  (∀ (k0_h6 : k0_cond6 v106 v108 = 1#1), 512 ∣ (k0_mult15 v130).toNat) ∧
  (∀ (k0_h6 : k0_cond6 v106 v108 = 1#1), ∀ a, (k0_off35 v130) a + S512x256.size a ≤ S4096x256.size a)
theorem k0_mult15_dvd : ∀ (v106 : BitVec 32) (v108 : BitVec 32) (v130 : BitVec 32) (k0_hw16 : k0_chk16 v106 v108 v130), ∀ (k0_h6 : k0_cond6 v106 v108 = 1#1), 512 ∣ (k0_mult15 v130).toNat := fun v106 v108 v130 k0_hw16 k0_h6 => k0_hw16.1 k0_h6
theorem k0_off35_inb : ∀ (v106 : BitVec 32) (v108 : BitVec 32) (v130 : BitVec 32) (k0_hw16 : k0_chk16 v106 v108 v130), ∀ (k0_h6 : k0_cond6 v106 v108 = 1#1), ∀ a, (k0_off35 v130) a + S512x256.size a ≤ S4096x256.size a := fun v106 v108 v130 k0_hw16 k0_h6 => k0_hw16.2 k0_h6

def k0_off36 (v125 : BitVec 32) : Fin 2 → Nat :=
  let c1024_i32_46 : BitVec 32 := 1024#32
  let v126 : BitVec 32 := Scalar.muli v125 c1024_i32_46
  let c0_i32_47 : BitVec 32 := 0#32
  let v127 : BitVec 32 := Scalar.addi v126 c0_i32_47
  let v128 : BitVec 32 := v127
  let v136 : Index := Scalar.indexCast v128
  let c0_50 : Index := 0#32
  ![v136.toNat, 0]

def k0_chk15 (v106 : BitVec 32) (v108 : BitVec 32) (v125 : BitVec 32) : Prop :=
  (∀ (k0_h6 : k0_cond6 v106 v108 = 1#1), 512 ∣ (k0_mult14 v125).toNat) ∧
  (∀ (k0_h6 : k0_cond6 v106 v108 = 1#1), ∀ a, (k0_off36 v125) a + S1024x256.size a ≤ S4096x256.size a)
theorem k0_mult14_dvd : ∀ (v106 : BitVec 32) (v108 : BitVec 32) (v125 : BitVec 32) (k0_hw15 : k0_chk15 v106 v108 v125), ∀ (k0_h6 : k0_cond6 v106 v108 = 1#1), 512 ∣ (k0_mult14 v125).toNat := fun v106 v108 v125 k0_hw15 k0_h6 => k0_hw15.1 k0_h6
theorem k0_off36_inb : ∀ (v106 : BitVec 32) (v108 : BitVec 32) (v125 : BitVec 32) (k0_hw15 : k0_chk15 v106 v108 v125), ∀ (k0_h6 : k0_cond6 v106 v108 = 1#1), ∀ a, (k0_off36 v125) a + S1024x256.size a ≤ S4096x256.size a := fun v106 v108 v125 k0_hw15 k0_h6 => k0_hw15.2 k0_h6

def k0_off37 (v108 : BitVec 32) : Fin 3 → Nat :=
  let v163 : Index := Scalar.indexCast v108
  let c0_64 : Index := 0#32
  let c0_65 : Index := 0#32
  ![v163.toNat, 0, 0]
def k0_mult16 (v106 : BitVec 32) : BitVec 32 :=
  let c1024_i32_71 : BitVec 32 := 1024#32
  let v175 : BitVec 32 := Scalar.muli v106 c1024_i32_71
  v175
def k0_off38 (v106 : BitVec 32) : Fin 2 → Nat :=
  let c1024_i32_71 : BitVec 32 := 1024#32
  let v175 : BitVec 32 := Scalar.muli v106 c1024_i32_71
  let v176 : BitVec 32 := v175
  let v184 : Index := Scalar.indexCast v176
  let c0_74 : Index := 0#32
  ![v184.toNat, 0]

def k0_chk12 (v106 : BitVec 32) (v108 : BitVec 32) : Prop :=
  (∀ (k0_h4 : k0_cond4 v106 v108 = 1#1), ∀ a, (k0_off27 v108) a + S1x144x512.size a ≤ S8x144x512.size a) ∧
  (∀ (k0_h5 : k0_cond5 v106 v108 = 1#1), ∀ a, (k0_off32 v108) a + S1x144x512.size a ≤ S8x144x512.size a) ∧
  (∀ (k0_h6 : k0_cond6 v106 v108 = 1#1), ∀ a, (k0_off37 v108) a + S1x144x512.size a ≤ S8x144x512.size a) ∧
  (∀ (k0_h6 : k0_cond6 v106 v108 = 1#1), 1024 ∣ (k0_mult16 v106).toNat) ∧
  (∀ (k0_h6 : k0_cond6 v106 v108 = 1#1), ∀ a, (k0_off38 v106) a + S1024x128.size a ≤ S4096x128.size a) ∧
  (∀ (k0_h6 : k0_cond6 v106 v108 = 1#1), ∀ (hinb : ∀ a, (k0_off38 v106) a + S1024x128.size a ≤ S4096x128.size a), (Rect.unit (s := S4096x128) (k0_off38 v106) S1024x128.size hinb).PackedRows (EltTy.packing .bf16))
theorem k0_off27_inb : ∀ (v106 : BitVec 32) (v108 : BitVec 32) (k0_hw12 : k0_chk12 v106 v108), ∀ (k0_h4 : k0_cond4 v106 v108 = 1#1), ∀ a, (k0_off27 v108) a + S1x144x512.size a ≤ S8x144x512.size a := fun v106 v108 k0_hw12 k0_h4 => k0_hw12.1 k0_h4
theorem k0_off32_inb : ∀ (v106 : BitVec 32) (v108 : BitVec 32) (k0_hw12 : k0_chk12 v106 v108), ∀ (k0_h5 : k0_cond5 v106 v108 = 1#1), ∀ a, (k0_off32 v108) a + S1x144x512.size a ≤ S8x144x512.size a := fun v106 v108 k0_hw12 k0_h5 => k0_hw12.2.1 k0_h5
theorem k0_off37_inb : ∀ (v106 : BitVec 32) (v108 : BitVec 32) (k0_hw12 : k0_chk12 v106 v108), ∀ (k0_h6 : k0_cond6 v106 v108 = 1#1), ∀ a, (k0_off37 v108) a + S1x144x512.size a ≤ S8x144x512.size a := fun v106 v108 k0_hw12 k0_h6 => k0_hw12.2.2.1 k0_h6
theorem k0_mult16_dvd : ∀ (v106 : BitVec 32) (v108 : BitVec 32) (k0_hw12 : k0_chk12 v106 v108), ∀ (k0_h6 : k0_cond6 v106 v108 = 1#1), 1024 ∣ (k0_mult16 v106).toNat := fun v106 v108 k0_hw12 k0_h6 => k0_hw12.2.2.2.1 k0_h6
theorem k0_off38_inb : ∀ (v106 : BitVec 32) (v108 : BitVec 32) (k0_hw12 : k0_chk12 v106 v108), ∀ (k0_h6 : k0_cond6 v106 v108 = 1#1), ∀ a, (k0_off38 v106) a + S1024x128.size a ≤ S4096x128.size a := fun v106 v108 k0_hw12 k0_h6 => k0_hw12.2.2.2.2.1 k0_h6
theorem k0_off38_packedbf16 : ∀ (v106 : BitVec 32) (v108 : BitVec 32) (k0_hw12 : k0_chk12 v106 v108), ∀ (k0_h6 : k0_cond6 v106 v108 = 1#1), (Rect.unit (s := S4096x128) (k0_off38 v106) S1024x128.size (k0_off38_inb v106 v108 k0_hw12 k0_h6)).PackedRows (EltTy.packing .bf16) := fun v106 v108 k0_hw12 k0_h6 => k0_hw12.2.2.2.2.2 k0_h6 (k0_off38_inb v106 v108 k0_hw12 k0_h6)

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x8x192 : Shape := ⟨4, ![8, 4096, 8, 192]⟩
abbrev S8x4096x8x128 : Shape := ⟨4, ![8, 4096, 8, 128]⟩
abbrev S4096 : Shape := ⟨1, ![4096]⟩
abbrev S8x8x4096x4096 : Shape := ⟨4, ![8, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩
abbrev S32768x1024 : Shape := ⟨2, ![32768, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8x4096x8x192, .f32⟩
  | .hbm, ⟨1, _⟩ => ⟨S8x4096x8x192, .f32⟩
  | .hbm, ⟨2, _⟩ => ⟨S8x4096x8x128, .f32⟩
  | .hbm, ⟨3, _⟩ => ⟨S4096, .i32⟩
  | .hbm, ⟨4, _⟩ => ⟨S8x8x4096x4096, .f32⟩
  | .hbm, ⟨5, _⟩ => ⟨S_, .f32⟩
  | .hbm, ⟨6, _⟩ => ⟨S_, .f32⟩
  | .hbm, ⟨7, _⟩ => ⟨S8x8x4096x4096, .f32⟩
  | .hbm, ⟨8, _⟩ => ⟨S8x8x4096x4096, .f32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S1x4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096x1, .i32⟩
  | .hbm, ⟨47, _⟩ => ⟨S4096x4096, .i32⟩
  | .hbm, ⟨48, _⟩ => ⟨S4096x4096, .i32⟩
  | .hbm, ⟨49, _⟩ => ⟨S4096x4096, .i1⟩
  | .hbm, ⟨50, _⟩ => ⟨S1x1x4096x4096, .i1⟩
  | .hbm, ⟨51, _⟩ => ⟨S_, .f32⟩
  | .hbm, ⟨52, _⟩ => ⟨S_, .f32⟩
  | .hbm, ⟨53, _⟩ => ⟨S8x8x4096x4096, .i1⟩
  | .hbm, ⟨54, _⟩ => ⟨S8x8x4096x4096, .f32⟩
  | .hbm, ⟨55, _⟩ => ⟨S8x8x4096x4096, .f32⟩
  | .hbm, ⟨56, _⟩ => ⟨S_, .f32⟩
  | .hbm, ⟨57, _⟩ => ⟨S8x8x4096, .f32⟩
  | .hbm, ⟨58, _⟩ => ⟨S_, .f32⟩
  | .hbm, ⟨59, _⟩ => ⟨S8x8x4096, .f32⟩
  | .hbm, ⟨60, _⟩ => ⟨S8x8x4096, .f32⟩
  | .hbm, ⟨61, _⟩ => ⟨S8x8x4096x1, .f32⟩
  | .hbm, ⟨62, _⟩ => ⟨S8x8x4096x4096, .f32⟩
  | .hbm, ⟨63, _⟩ => ⟨S8x8x4096x4096, .f32⟩
  | .hbm, ⟨64, _⟩ => ⟨S8x8x4096x4096, .f32⟩
  | .hbm, ⟨65, _⟩ => ⟨S_, .f32⟩
  | .hbm, ⟨66, _⟩ => ⟨S8x8x4096, .f32⟩
  | .hbm, ⟨67, _⟩ => ⟨S8x8x4096x1, .f32⟩
  | .hbm, ⟨68, _⟩ => ⟨S8x8x4096x4096, .f32⟩
  | .hbm, ⟨69, _⟩ => ⟨S8x8x4096x4096, .f32⟩
  | .hbm, ⟨70, _⟩ => ⟨S8x8x128x4096, .f32⟩
  | .hbm, ⟨71, _⟩ => ⟨S8x4096x8x128, .f32⟩
  | .hbm, ⟨72, _⟩ => ⟨S32768x1024, .f32⟩
  | .hbm, ⟨73, _⟩ => ⟨S32768x1024, .bf16⟩
  | _, _ => ⟨S8x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_cst_1 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v13 : Ref sig .tc := ⟨.hbm, 55, rfl⟩
abbrev main_cst_2 : Ref sig .tc := ⟨.hbm, 56, rfl⟩
abbrev main_v14 : Ref sig .tc := ⟨.hbm, 57, rfl⟩
abbrev main_cst_3 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_cst_4 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩

abbrev nD : Nat := 1
abbrev τ : Topo := Topo.v7x

variable {F : FTy → Type} [FloatOps F]
-- ==== BandKernel.lean ====
abbrev S8x4096x2048 : Shape := ⟨3, ![8, 4096, 2048]⟩
abbrev S2048x3904 : Shape := ⟨2, ![2048, 3904]⟩
abbrev S2048x3072 : Shape := ⟨2, ![2048, 3072]⟩
abbrev S2048x1024 : Shape := ⟨2, ![2048, 1024]⟩
abbrev S1024x2048 : Shape := ⟨2, ![1024, 2048]⟩
abbrev S32768x2048 : Shape := ⟨2, ![32768, 2048]⟩
abbrev S32768x1024 : Shape := ⟨2, ![32768, 1024]⟩
abbrev S64x1152x512 : Shape := ⟨3, ![64, 1152, 512]⟩
abbrev S8x512x1024 : Shape := ⟨3, ![8, 512, 1024]⟩
abbrev S256x2048 : Shape := ⟨2, ![256, 2048]⟩
abbrev S256x1024 : Shape := ⟨2, ![256, 1024]⟩
abbrev S1x1152x256 : Shape := ⟨3, ![1, 1152, 256]⟩
abbrev S1x256x1024 : Shape := ⟨3, ![1, 256, 1024]⟩
abbrev S1024x256 : Shape := ⟨2, ![1024, 256]⟩
abbrev S16x256 : Shape := ⟨2, ![16, 256]⟩
abbrev S128x256 : Shape := ⟨2, ![128, 256]⟩
abbrev S1x128x256 : Shape := ⟨3, ![1, 128, 256]⟩
abbrev S1x16x256 : Shape := ⟨3, ![1, 16, 256]⟩

abbrev nBuf : Space → Nat
  | .hbm => 13
  | .vmem => 14
  | .smem => 0
  | _ => 0

abbrev bufTy : (tb : Table) → Fin (tcTables nBuf tb) → BufTy
  | .hbm, ⟨0, _⟩ => ⟨S8x4096x2048, .f32⟩
  | .hbm, ⟨1, _⟩ => ⟨S2048x3904, .f32⟩
  | .hbm, ⟨2, _⟩ => ⟨S2048x3072, .f32⟩
  | .hbm, ⟨3, _⟩ => ⟨S2048x3072, .bf16⟩
  | .hbm, ⟨4, _⟩ => ⟨S2048x1024, .f32⟩
  | .hbm, ⟨5, _⟩ => ⟨S1024x2048, .f32⟩
  | .hbm, ⟨6, _⟩ => ⟨S1024x2048, .bf16⟩
  | .hbm, ⟨7, _⟩ => ⟨S32768x2048, .f32⟩
  | .hbm, ⟨8, _⟩ => ⟨S32768x1024, .bf16⟩
  | .hbm, ⟨9, _⟩ => ⟨S32768x1024, .bf16⟩
  | .hbm, ⟨10, _⟩ => ⟨S64x1152x512, .bf16⟩
  | .hbm, ⟨11, _⟩ => ⟨S8x512x1024, .f32⟩
  | .hbm, ⟨12, _⟩ => ⟨S8x512x1024, .f32⟩
  | .local _ .vmem, ⟨0, _⟩ => ⟨S256x2048, .f32⟩
  | .local _ .vmem, ⟨1, _⟩ => ⟨S256x2048, .f32⟩
  | .local _ .vmem, ⟨2, _⟩ => ⟨S2048x3072, .bf16⟩
  | .local _ .vmem, ⟨3, _⟩ => ⟨S1024x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1x1152x256, .bf16⟩
  | .local _ .vmem, ⟨9, _⟩ => ⟨S1x1152x256, .bf16⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev main_v6_2 : Ref sig .tc := ⟨.hbm, 10, rfl⟩
abbrev main_v6_3 : Ref sig .tc := ⟨.hbm, 11, rfl⟩
abbrev main_v6_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c16_i32 : BitVec 32 := 16#32
  let c0_i32 : BitVec 32 := 0#32
  let v74 : BitVec 1 := Scalar.cmpi .eq c16_i32 c0_i32
  let c1_i32 : BitVec 32 := 1#32
  let v75 : BitVec 32 := Scalar.select v74 c1_i32 c16_i32
  let v76 : BitVec 32 := Scalar.remsi arg0 v75
  let c0_i32_47 : BitVec 32 := 0#32
  let v78 : BitVec 1 := Scalar.cmpi .slt v76 c0_i32_47
  let c0_i32_48 : BitVec 32 := 0#32
  let v79 : BitVec 1 := Scalar.cmpi .slt v75 c0_i32_48
  let v80 : BitVec 1 := Scalar.xori v78 v79
  let c0_i32_46 : BitVec 32 := 0#32
  let v77 : BitVec 1 := Scalar.cmpi .ne v76 c0_i32_46
  let v81 : BitVec 1 := Scalar.andi v80 v77
  let v82 : BitVec 32 := Scalar.addi v76 v75
  let v83 : BitVec 32 := Scalar.select v81 v82 v76
  let c14_i32 : BitVec 32 := 14#32
  let v84 : BitVec 1 := Scalar.cmpi .sge v83 c14_i32
  let v85 : BitVec 32 := Scalar.extui v84
  let c0_i32_49 : BitVec 32 := 0#32
  let v86 : BitVec 1 := Scalar.cmpi .ne v85 c0_i32_49
  v86

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c14_i32 : BitVec 32 := 14#32
  let v27 : BitVec 32 := Scalar.subi v26 c14_i32
  let c0_i32_10 : BitVec 32 := 0#32
  let v28 : BitVec 32 := Scalar.maxsi v27 c0_i32_10
  let c0_i32_11 : BitVec 32 := 0#32
  let c0_i32_12 : BitVec 32 := 0#32
  ![v16.toNat, v28.toNat, c0_i32_11.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c14_i32 : BitVec 32 := 14#32
  let v27 : BitVec 32 := Scalar.subi v26 c14_i32
  let c0_i32_10 : BitVec 32 := 0#32
  let v28 : BitVec 32 := Scalar.maxsi v27 c0_i32_10
  let c0_i32_11 : BitVec 32 := 0#32
  let c0_i32_12 : BitVec 32 := 0#32
  ![v16.toNat, v28.toNat, c0_i32_11.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1152x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BandReferenceIdeal.lean ====
abbrev S8x4096x2048 : Shape := ⟨3, ![8, 4096, 2048]⟩
abbrev S2048x3904 : Shape := ⟨2, ![2048, 3904]⟩
abbrev S8x4096x3904 : Shape := ⟨3, ![8, 4096, 3904]⟩
abbrev S8x4096x832 : Shape := ⟨3, ![8, 4096, 832]⟩
abbrev S8x4096x1024 : Shape := ⟨3, ![8, 4096, 1024]⟩
abbrev S64x512x8x128 : Shape := ⟨4, ![64, 512, 8, 128]⟩
abbrev S64x8x128x512 : Shape := ⟨4, ![64, 8, 128, 512]⟩
abbrev S_ : Shape := ⟨0, ![]⟩
abbrev S64x8x16x512 : Shape := ⟨4, ![64, 8, 16, 512]⟩
abbrev S64x8x144x512 : Shape := ⟨4, ![64, 8, 144, 512]⟩
abbrev S64x1152x512 : Shape := ⟨3, ![64, 1152, 512]⟩
abbrev S32768x1024 : Shape := ⟨2, ![32768, 1024]⟩
abbrev S8x512x1024 : Shape := ⟨3, ![8, 512, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048x3904, .f32⟩
  | .hbm, ⟨2, _⟩ => ⟨S8x4096x3904, .f32⟩
  | .hbm, ⟨3, _⟩ => ⟨S8x4096x832, .f32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S64x512x8x128, .f32⟩
  | .hbm, ⟨8, _⟩ => ⟨S64x8x128x512, .f32⟩
  | .hbm, ⟨9, _⟩ => ⟨S_, .f32⟩
  | .hbm, ⟨10, _⟩ => ⟨S64x8x16x512, .f32⟩
  | .hbm, ⟨11, _⟩ => ⟨S64x8x144x512, .f32⟩
  | .hbm, ⟨12, _⟩ => ⟨S64x1152x512, .f32⟩
  | .hbm, ⟨13, _⟩ => ⟨S64x1152x512, .bf16⟩
  | .hbm, ⟨14, _⟩ => ⟨S32768x1024, .f32⟩
  | .hbm, ⟨15, _⟩ => ⟨S32768x1024, .bf16⟩
  | .hbm, ⟨16, _⟩ => ⟨S32768x1024, .f32⟩
  | .hbm, ⟨17, _⟩ => ⟨S32768x1024, .bf16⟩
  | .hbm, ⟨18, _⟩ => ⟨S8x512x1024, .f32⟩
  | .hbm, ⟨19, _⟩ => ⟨S8x512x1024, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Proof.BandBlock.lean ====
/-
  What the band projection's body leaves at one point of its grid, entry by entry.
-/
module

public import proofs.«01_k».proof.Proof.Gen.BandKernelIdeal.Value
public import Idealize.ShloMosaic.Lib.Pointwise
public import Idealize.ShloMosaic.Lib.Pipeline.ValueKit.Tiles
public import Idealize.ShloMosaic.Lib.Pipeline.ValueKit.Geometry

@[expose] public section

set_option maxRecDepth 16384

noncomputable section

namespace Cert.Band

open Cert.BandKernelIdeal Cert.BandKernelIdeal.Gen
open Idealize.ShloMosaic Idealize.ShloMosaic.TcCoe Idealize.ShloMosaic.Tactic

/-- A row times a column of the query weights. -/
theorem pay4_at (x : Vec Ideal S256x2048 .f32) (w : Vec Ideal S2048x1024 .bf16) (r : Fin 256) (j : Fin 1024) :
    k0_pay4 x w (ix2 r j) = ∑ d : Fin 2048, x (ix2 r d) * w (ix2 d j) := by
  pointwise [k0_pay4, k0_pay3]

/-- The same of the key weights. -/
theorem pay6_at (x : Vec Ideal S256x2048 .f32) (w : Vec Ideal S2048x1024 .bf16) (r : Fin 256) (j : Fin 1024) :
    k0_pay6 x w (ix2 r j) = ∑ d : Fin 2048, x (ix2 r d) * w (ix2 d j) := by
  pointwise [k0_pay6, k0_pay5, k0_pay3]

/-- The keys kept for the next chunks. -/
theorem pay1_at (x : Vec Ideal S256x2048 .f32) (w : Vec Ideal S2048x1024 .bf16) (u : Fin 1) (r : Fin 256) (j : Fin 1024) :
    k0_pay1 (k0_pay5 x w) (ix3 u r j) = ∑ d : Fin 2048, x (ix2 r d) * w (ix2 d j) := by
  pointwise [k0_pay1, k0_pay5, k0_pay3]

/-- The values kept for the next chunks. -/
theorem pay2_at (x : Vec Ideal S256x2048 .f32) (w : Vec Ideal S2048x1024 .bf16) (u : Fin 1) (r : Fin 256) (j : Fin 1024) :
    k0_pay2 (k0_pay3 x) w (ix3 u r j) = ∑ d : Fin 2048, x (ix2 r d) * w (ix2 d j) := by
  pointwise [k0_pay2, k0_pay3]

/-- A row of the transposed value weights times a row. -/
theorem pay7_at (x : Vec Ideal S256x2048 .f32) (w : Vec Ideal S1024x2048 .bf16) (j : Fin 1024) (r : Fin 256) :
    k0_pay7 x w (ix2 j r) = ∑ d : Fin 2048, w (ix2 j d) * x (ix2 r d) := by
  pointwise [k0_pay7, k0_pay3]

/-- 128 rows cut out of a block and given a leading axis of one. -/
theorem cut_at (o : ℕ) (v : FVec Ideal S1024x256 .bf16) (hs : S1024x256.Slices ![o, 0] S128x256) (hc : S128x256.ShapeCasts S1x128x256)
    (u : Fin 1) (r : Fin 128) (j : Fin 256) (k : Fin 1024) (hk : k.val = o + r.val) :
    shapeCast S1x128x256 (extractStridedSlice S128x256 ![o, 0] v hs) hc (ix3 u r j) = v (ix2 k j) := by
  pointwise []
  exact congrArg (fun k => v (ix2 k j)) (Fin.ext hk.symm)

/-- The block of ones with a leading axis of one. -/
theorem ones_at (hc : S16x256.ShapeCasts S1x16x256) (u : Fin 1) (r : Fin 16) (j : Fin 256) :
    shapeCast S1x16x256 (k0_pay8 (F := Ideal)) hc (ix3 u r j) = (1 : EReal) := by
  pointwise [k0_pay8]

/-- A row of a point's rows times a column of its weights. -/
def rc (x0 : Vec Ideal S256x2048 .f32) (x1 : Vec Ideal S2048x3072 .bf16) (r : Fin 256) (J : Fin 3072) : EReal :=
  ∑ d : Fin 2048, x0 (ix2 r d) * x1 (ix2 d J)

/-- The value block of a point: in each group of 144 rows, 128 rows of products and then ones. -/
def vblk (x0 : Vec Ideal S256x2048 .f32) (x2 : Vec Ideal S1024x2048 .bf16) (r : Fin 1152) (j : Fin 256) : EReal :=
  if h : r.val % 144 < 128 then ∑ d : Fin 2048, x2 (ix2 ⟨r.val / 144 * 128 + r.val % 144, by omega⟩ d) * x0 (ix2 j d) else 1

/-- A piece of 128 rows of the value block. -/
theorem vcut_at (x0 : Vec Ideal S256x2048 .f32) (x2 : Vec Ideal S1024x2048 .bf16) (o p : ℕ) (hs : S1024x256.Slices ![o, 0] S128x256)
    (hc : S128x256.ShapeCasts S1x128x256) (x : S1x128x256.Idx) (r : Fin 1152) (j : Fin 256) (h1 : r.val = p + (x 1).val) (h2 : j.val = (x 2).val)
    (hp : p % 144 = 0) (ho : o = p / 144 * 128) :
    shapeCast S1x128x256 (extractStridedSlice S128x256 ![o, 0] (k0_pay7 x0 x2) hs) hc x = vblk x0 x2 r j := by
  obtain ⟨u, a, b, rfl⟩ : ∃ (u : Fin 1) (a : Fin 128) (b : Fin 256), x = ix3 u a b := ⟨x 0, x 1, x 2, by funext i; fin_cases i <;> rfl⟩
  change r.val = p + a.val at h1
  obtain rfl : j = b := Fin.ext h2
  have ha := a.isLt
  have hr : r.val % 144 < 128 := by omega
  rw [cut_at o _ hs hc u a j ⟨r.val / 144 * 128 + r.val % 144, by omega⟩ (by show r.val / 144 * 128 + r.val % 144 = o + a.val; omega), pay7_at, vblk, dif_pos hr]

/-- A piece of 16 rows of ones of the value block. -/
theorem vones_at (x0 : Vec Ideal S256x2048 .f32) (x2 : Vec Ideal S1024x2048 .bf16) (p : ℕ)
    (hc : S16x256.ShapeCasts S1x16x256) (x : S1x16x256.Idx) (r : Fin 1152) (j : Fin 256) (h1 : r.val = p + (x 1).val) (hp : p % 144 = 128) :
    shapeCast S1x16x256 (k0_pay8 (F := Ideal)) hc x = vblk x0 x2 r j := by
  obtain ⟨u, a, b, rfl⟩ : ∃ (u : Fin 1) (a : Fin 16) (b : Fin 256), x = ix3 u a b := ⟨x 0, x 1, x 2, by funext i; fin_cases i <;> rfl⟩
  change r.val = p + a.val at h1
  have ha := a.isLt
  have hr : ¬ r.val % 144 < 128 := by omega
  rw [vblk, dif_neg hr]
  exact ones_at hc u a b

/-- The query columns a point leaves, in the A case. -/
theorem out3_A (c : Dev nD) (t : Fin cfg0.N) (hh : ¬cond0_0 (grid0.coords t)) (x0 : FVec Ideal S256x2048 .f32) (x1 : FVec Ideal S2048x3072 .bf16) (x2 : FVec Ideal S1024x2048 .bf16) (r : Fin 256) (j : Fin 1024) :
    out0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hh x0 x1 x2 (ix2 r j) = rc x0 x1 r ⟨j.val, by omega⟩ := by
  unfold rc
  frame_out
  refine (pay4_at _ _ r j).trans (Finset.sum_congr rfl fun d _ => congrArg (x0 (ix2 r d) * ·) ?_)
  exact View.ld_unit_apply_of _ _ _ _ _ _ fun a => by fin_cases a <;> simp

/-- The key columns a point leaves, in the A case. -/
theorem out4_A (c : Dev nD) (t : Fin cfg0.N) (hh : ¬cond0_0 (grid0.coords t)) (x0 : FVec Ideal S256x2048 .f32) (x1 : FVec Ideal S2048x3072 .bf16) (x2 : FVec Ideal S1024x2048 .bf16) (r : Fin 256) (j : Fin 1024) :
    out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hh x0 x1 x2 (ix2 r j) = rc x0 x1 r ⟨1024 + j.val, by omega⟩ := by
  unfold rc
  frame_out
  refine (pay6_at _ _ r j).trans (Finset.sum_congr rfl fun d _ => congrArg (x0 (ix2 r d) * ·) ?_)
  exact View.ld_unit_apply_of _ _ _ _ _ _ fun a => by fin_cases a <;> simp

set_option maxHeartbeats 4000000 in
/-- The value block a point leaves, in the A case. -/
theorem out5_A (c : Dev nD) (t : Fin cfg0.N) (hh : ¬cond0_0 (grid0.coords t)) (x0 : FVec Ideal S256x2048 .f32) (x1 : FVec Ideal S2048x3072 .bf16) (x2 : FVec Ideal S1024x2048 .bf16) (u : Fin 1) (r : Fin 1152) (j : Fin 256) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hh x0 x1 x2 (ix3 u r j) = vblk x0 x2 r j := by
  frame_out
  canon_tiles x h using View.cover_of_tiledBy _ ![1, 16, 256] (by sl_kernel_rfl) _
  · exact vones_at x0 x2 1136 shapeCasts_S16x256_S1x16x256 x r j h1 (by decide)
  · exact vcut_at x0 x2 896 1008 slices_S1024x256_o896_0_S128x256 shapeCasts_S128x256_S1x128x256 x r j h1 h2 (by decide) (by decide)
  · exact vones_at x0 x2 992 shapeCasts_S16x256_S1x16x256 x r j h1 (by decide)
  · exact vcut_at x0 x2 768 864 slices_S1024x256_o768_0_S128x256 shapeCasts_S128x256_S1x128x256 x r j h1 h2 (by decide) (by decide)
  · exact vones_at x0 x2 848 shapeCasts_S16x256_S1x16x256 x r j h1 (by decide)
  · exact vcut_at x0 x2 640 720 slices_S1024x256_o640_0_S128x256 shapeCasts_S128x256_S1x128x256 x r j h1 h2 (by decide) (by decide)
  · exact vones_at x0 x2 704 shapeCasts_S16x256_S1x16x256 x r j h1 (by decide)
  · exact vcut_at x0 x2 512 576 slices_S1024x256_o512_0_S128x256 shapeCasts_S128x256_S1x128x256 x r j h1 h2 (by decide) (by decide)
  · exact vones_at x0 x2 560 shapeCasts_S16x256_S1x16x256 x r j h1 (by decide)
  · exact vcut_at x0 x2 384 432 slices_S1024x256_o384_0_S128x256 shapeCasts_S128x256_S1x128x256 x r j h1 h2 (by decide) (by decide)
  · exact vones_at x0 x2 416 shapeCasts_S16x256_S1x16x256 x r j h1 (by decide)
  · exact vcut_at x0 x2 256 288 slices_S1024x256_o256_0_S128x256 shapeCasts_S128x256_S1x128x256 x r j h1 h2 (by decide) (by decide)
  · exact vones_at x0 x2 272 shapeCasts_S16x256_S1x16x256 x r j h1 (by decide)
  · exact vcut_at x0 x2 128 144 slices_S1024x256_o128_0_S128x256 shapeCasts_S128x256_S1x128x256 x r j h1 h2 (by decide) (by decide)
  · exact vones_at x0 x2 128 shapeCasts_S16x256_S1x16x256 x r j h1 (by decide)
  · exact vcut_at x0 x2 0 0 slices_S1024x256_o0_0_S128x256 shapeCasts_S128x256_S1x128x256 x r j (h1.trans (Nat.zero_add _).symm) h2 (by decide) (by decide)

/-- The query columns a point leaves, in the B case. -/
theorem out3_B (c : Dev nD) (t : Fin cfg0.N) (hh : cond0_0 (grid0.coords t)) (x0 : FVec Ideal S256x2048 .f32) (x1 : FVec Ideal S2048x3072 .bf16) (x2 : FVec Ideal S1024x2048 .bf16) (r : Fin 256) (j : Fin 1024) :
    out0_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hh x0 x1 x2 (ix2 r j) = rc x0 x1 r ⟨j.val, by omega⟩ := by
  unfold rc
  frame_out
  refine (pay4_at _ _ r j).trans (Finset.sum_congr rfl fun d _ => congrArg (x0 (ix2 r d) * ·) ?_)
  exact View.ld_unit_apply_of _ _ _ _ _ _ fun a => by fin_cases a <;> simp

/-- The key columns a point leaves, in the B case. -/
theorem out4_B (c : Dev nD) (t : Fin cfg0.N) (hh : cond0_0 (grid0.coords t)) (x0 : FVec Ideal S256x2048 .f32) (x1 : FVec Ideal S2048x3072 .bf16) (x2 : FVec Ideal S1024x2048 .bf16) (r : Fin 256) (j : Fin 1024) :
    out0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hh x0 x1 x2 (ix2 r j) = rc x0 x1 r ⟨1024 + j.val, by omega⟩ := by
  unfold rc
  frame_out
  refine (pay6_at _ _ r j).trans (Finset.sum_congr rfl fun d _ => congrArg (x0 (ix2 r d) * ·) ?_)
  exact View.ld_unit_apply_of _ _ _ _ _ _ fun a => by fin_cases a <;> simp

/-- The kept key columns a point leaves, in the B case. -/
theorem out6_B (c : Dev nD) (t : Fin cfg0.N) (hh : cond0_0 (grid0.coords t)) (x0 : FVec Ideal S256x2048 .f32) (x1 : FVec Ideal S2048x3072 .bf16) (x2 : FVec Ideal S1024x2048 .bf16) (u : Fin 1) (r : Fin 256) (j : Fin 1024) :
    out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hh x0 x1 x2 (ix3 u r j) = rc x0 x1 r ⟨1024 + j.val, by omega⟩ := by
  unfold rc
  frame_out
  refine (pay1_at _ _ u r j).trans (Finset.sum_congr rfl fun d _ => congrArg (x0 (ix2 r d) * ·) ?_)
  exact View.ld_unit_apply_of _ _ _ _ _ _ fun a => by fin_cases a <;> simp

/-- The kept value columns a point leaves, in the B case. -/
theorem out7_B (c : Dev nD) (t : Fin cfg0.N) (hh : cond0_0 (grid0.coords t)) (x0 : FVec Ideal S256x2048 .f32) (x1 : FVec Ideal S2048x3072 .bf16) (x2 : FVec Ideal S1024x2048 .bf16) (u : Fin 1) (r : Fin 256) (j : Fin 1024) :
    out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hh x0 x1 x2 (ix3 u r j) = rc x0 x1 r ⟨2048 + j.val, by omega⟩ := by
  unfold rc
  frame_out
  refine (pay2_at _ _ u r j).trans (Finset.sum_congr rfl fun d _ => congrArg (x0 (ix2 r d) * ·) ?_)
  exact View.ld_unit_apply_of _ _ _ _ _ _ fun a => by fin_cases a <;> simp

set_option maxHeartbeats 4000000 in
/-- The value block a point leaves, in the B case. -/
theorem out5_B (c : Dev nD) (t : Fin cfg0.N) (hh : cond0_0 (grid0.coords t)) (x0 : FVec Ideal S256x2048 .f32) (x1 : FVec Ideal S2048x3072 .bf16) (x2 : FVec Ideal S1024x2048 .bf16) (u : Fin 1) (r : Fin 1152) (j : Fin 256) :
    out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hh x0 x1 x2 (ix3 u r j) = vblk x0 x2 r j := by
  frame_out
  canon_tiles x h using View.cover_of_tiledBy _ ![1, 16, 256] (by sl_kernel_rfl) _
  · exact vones_at x0 x2 1136 shapeCasts_S16x256_S1x16x256 x r j h1 (by decide)
  · exact vcut_at x0 x2 896 1008 slices_S1024x256_o896_0_S128x256 shapeCasts_S128x256_S1x128x256 x r j h1 h2 (by decide) (by decide)
  · exact vones_at x0 x2 992 shapeCasts_S16x256_S1x16x256 x r j h1 (by decide)
  · exact vcut_at x0 x2 768 864 slices_S1024x256_o768_0_S128x256 shapeCasts_S128x256_S1x128x256 x r j h1 h2 (by decide) (by decide)
  · exact vones_at x0 x2 848 shapeCasts_S16x256_S1x16x256 x r j h1 (by decide)
  · exact vcut_at x0 x2 640 720 slices_S1024x256_o640_0_S128x256 shapeCasts_S128x256_S1x128x256 x r j h1 h2 (by decide) (by decide)
  · exact vones_at x0 x2 704 shapeCasts_S16x256_S1x16x256 x r j h1 (by decide)
  · exact vcut_at x0 x2 512 576 slices_S1024x256_o512_0_S128x256 shapeCasts_S128x256_S1x128x256 x r j h1 h2 (by decide) (by decide)
  · exact vones_at x0 x2 560 shapeCasts_S16x256_S1x16x256 x r j h1 (by decide)
  · exact vcut_at x0 x2 384 432 slices_S1024x256_o384_0_S128x256 shapeCasts_S128x256_S1x128x256 x r j h1 h2 (by decide) (by decide)
  · exact vones_at x0 x2 416 shapeCasts_S16x256_S1x16x256 x r j h1 (by decide)
  · exact vcut_at x0 x2 256 288 slices_S1024x256_o256_0_S128x256 shapeCasts_S128x256_S1x128x256 x r j h1 h2 (by decide) (by decide)
  · exact vones_at x0 x2 272 shapeCasts_S16x256_S1x16x256 x r j h1 (by decide)
  · exact vcut_at x0 x2 128 144 slices_S1024x256_o128_0_S128x256 shapeCasts_S128x256_S1x128x256 x r j h1 h2 (by decide) (by decide)
  · exact vones_at x0 x2 128 shapeCasts_S16x256_S1x16x256 x r j h1 (by decide)
  · exact vcut_at x0 x2 0 0 slices_S1024x256_o0_0_S128x256 shapeCasts_S128x256_S1x128x256 x r j (h1.trans (Nat.zero_add _).symm) h2 (by decide) (by decide)

end Cert.Band

end
-- ==== Proof.BandValue.lean ====
/-
  The band projection's result arrays: every point's block placed, the products of the arguments.
-/
module

public import proofs.«01_k».proof.Proof.BandBlock
public import Idealize.ShloMosaic.Lib.StableHlo.ReadAt

@[expose] public section

set_option maxRecDepth 16384

noncomputable section

namespace Cert.Band

open Cert.BandKernelIdeal Cert.BandKernelIdeal.Gen
open Idealize.ShloMosaic Idealize.ShloMosaic.TcCoe Idealize.ShloMosaic.Tactic

variable (m : (ℓ : Loc nD τ sig) → Buf (Elt Ideal) ℓ)

/-- The activations by batch, row and component. -/
def X (c : Dev nD) (b : Fin 8) (t : Fin 4096) (d : Fin 2048) : EReal :=
  (m (c.tc.loc main_arg0) : Vec Ideal S8x4096x2048 .f32) (ix3 b t d)
/-- The weights by component and column. -/
def W (c : Dev nD) (d : Fin 2048) (j : Fin 3904) : EReal :=
  (m (c.tc.loc main_arg1) : Vec Ideal S2048x3904 .f32) (ix2 d j)

/-- One entry of the projection: row `t` of batch `b` times column `j`. -/
def proj (x : Fin 8 → Fin 4096 → Fin 2048 → EReal) (w : Fin 2048 → Fin 3904 → EReal) (b : Fin 8) (t : Fin 4096) (j : Fin 3904) : EReal :=
  ∑ d : Fin 2048, x b t d * w d j

/-- The query, key and value columns of the weights. -/
theorem v1_at (c : Dev nD) (d : Fin 2048) (j : Fin 3072) :
    (V m c main_v1 : FVec Ideal S2048x3072 .bf16) (ix2 d j) = W m c d ⟨832 + j.val, by omega⟩ := by
  unfold V
  after_reads_at
  try rfl

/-- The value columns transposed. -/
theorem v4_at (c : Dev nD) (j : Fin 1024) (d : Fin 2048) :
    (V m c main_v4 : FVec Ideal S1024x2048 .bf16) (ix2 j d) = W m c d ⟨2880 + j.val, by omega⟩ := by
  unfold V
  after_reads_at
  try rfl

/-- The rows of all batches. -/
theorem v5_at (c : Dev nD) (R : Fin 32768) (d : Fin 2048) :
    (V m c main_v5 : FVec Ideal S32768x2048 .f32) (ix2 R d) = X m c ⟨R.val / 4096, by omega⟩ ⟨R.val % 4096, by omega⟩ d := by
  unfold V
  after_reads_at
  try rfl

/-- The block each window reads or writes at a point. -/
theorem idx : ∀ t : Fin cfg0.N, (cfg0.win 0).index t = ![t.val, 0] ∧ (cfg0.win 1).index t = ![0, 0] ∧ (cfg0.win 2).index t = ![0, 0]
    ∧ (cfg0.win 3).index t = ![t.val, 0] ∧ (cfg0.win 4).index t = ![t.val, 0] ∧ (cfg0.win 5).index t = ![t.val / 2, 0, t.val % 2]
    ∧ (cfg0.win 6).index t = ![t.val / 16, t.val % 16 - 14, 0] ∧ (cfg0.win 7).index t = ![t.val / 16, t.val % 16 - 14, 0] := by
  have h : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val / 2, 0, t.val % 2]
    ∧ win0_6.index t = ![t.val / 16, t.val % 16 - 14, 0] ∧ win0_7.index t = ![t.val / 16, t.val % 16 - 14, 0] := by decide +kernel
  exact h

/-- The rows a point reads. -/
theorem iblk0_at (c : Dev nD) (t : Fin cfg0.N) (r : Fin 256) (d : Fin 2048) (R : Fin 32768) (hR : R.val = t.val * 256 + r.val) :
    (iblk m c 0 t : Vec Ideal S256x2048 .f32) (ix2 r d) = (V m c main_v5 : Vec Ideal S32768x2048 .f32) (ix2 R d) := by
  have i := (idx t).1
  blk_ext [iblk, i]

/-- Every point reads all the weights. -/
theorem iblk1_at (c : Dev nD) (t : Fin cfg0.N) (d : Fin 2048) (j : Fin 3072) :
    (iblk m c 1 t : Vec Ideal S2048x3072 .bf16) (ix2 d j) = (V m c main_v1 : Vec Ideal S2048x3072 .bf16) (ix2 d j) := by
  have i := (idx t).2.1
  blk_ext [iblk, i]

/-- Every point reads all the transposed value weights. -/
theorem iblk2_at (c : Dev nD) (t : Fin cfg0.N) (d : Fin 1024) (j : Fin 2048) :
    (iblk m c 2 t : Vec Ideal S1024x2048 .bf16) (ix2 d j) = (V m c main_v4 : Vec Ideal S1024x2048 .bf16) (ix2 d j) := by
  have i := (idx t).2.2.1
  blk_ext [iblk, i]

/-- Equal indices give equal entries. -/
theorem proj_congr (x : Fin 8 → Fin 4096 → Fin 2048 → EReal) (w : Fin 2048 → Fin 3904 → EReal) {b b' : Fin 8} {t t' : Fin 4096} {j j' : Fin 3904}
    (hb : b.val = b'.val) (ht : t.val = t'.val) (hj : j.val = j'.val) : proj x w b t j = proj x w b' t' j' := by
  obtain rfl := Fin.ext hb
  obtain rfl := Fin.ext ht
  obtain rfl := Fin.ext hj
  rfl

/-- A row of a point's block times a column of the weights. -/
theorem row_col (c : Dev nD) (t : Fin cfg0.N) (x0 : Vec Ideal S256x2048 .f32) (x1 : Vec Ideal S2048x3072 .bf16) (h0 : x0 = iblk m c 0 t) (h1 : x1 = iblk m c 1 t)
    (r : Fin 256) (J : Fin 3072) (b : Fin 8) (T : Fin 4096) (K : Fin 3904)
    (hb : b.val = (t.val * 256 + r.val) / 4096) (hT : T.val = (t.val * 256 + r.val) % 4096) (hK : K.val = 832 + J.val) :
    rc x0 x1 r J = proj (X m c) (W m c) b T K := by
  have ht : t.val < 128 := t.isLt
  refine Eq.trans ?_ (proj_congr (X m c) (W m c) (b := ⟨(t.val * 256 + r.val) / 4096, by omega⟩) (t := ⟨(t.val * 256 + r.val) % 4096, by omega⟩)
    (j := ⟨832 + J.val, by omega⟩) hb.symm hT.symm hK.symm)
  unfold rc proj
  refine Finset.sum_congr rfl fun d _ => ?_
  subst h0 h1
  rw [iblk0_at m c t r d ⟨t.val * 256 + r.val, by omega⟩ rfl, iblk1_at, v5_at, v1_at]

/-- A column of the value weights times a row of a point's block. -/
theorem col_row (c : Dev nD) (t : Fin cfg0.N) (x0 : Vec Ideal S256x2048 .f32) (x2 : Vec Ideal S1024x2048 .bf16) (h0 : x0 = iblk m c 0 t) (h2 : x2 = iblk m c 2 t)
    (r : Fin 256) (J : Fin 1024) (b : Fin 8) (T : Fin 4096) (K : Fin 3904)
    (hb : b.val = (t.val * 256 + r.val) / 4096) (hT : T.val = (t.val * 256 + r.val) % 4096) (hK : K.val = 2880 + J.val) :
    (∑ d : Fin 2048, x2 (ix2 J d) * x0 (ix2 r d) : EReal) = proj (X m c) (W m c) b T K := by
  have ht : t.val < 128 := t.isLt
  refine Eq.trans ?_ (proj_congr (X m c) (W m c) (b := ⟨(t.val * 256 + r.val) / 4096, by omega⟩) (t := ⟨(t.val * 256 + r.val) % 4096, by omega⟩)
    (j := ⟨2880 + J.val, by omega⟩) hb.symm hT.symm hK.symm)
  unfold proj
  refine Finset.sum_congr rfl fun d _ => ?_
  subst h0 h2
  rw [iblk0_at m c t r d ⟨t.val * 256 + r.val, by omega⟩ rfl, iblk2_at, v5_at, v4_at]
  exact mul_comm _ _

/-- Columns from `o` of the projection, all batches' rows in one axis. -/
def rowsOf (x : Fin 8 → Fin 4096 → Fin 2048 → EReal) (w : Fin 2048 → Fin 3904 → EReal) (o : Fin 2881) : Vec Ideal S32768x1024 .bf16 := fun i =>
  proj x w ⟨(i 0).val / 4096, by have := (i 0).isLt; change _ < 32768 at this; omega⟩ ⟨(i 0).val % 4096, Nat.mod_lt _ (by norm_num)⟩
    ⟨o.val + (i 1).val, by have := (i 1).isLt; change _ < 1024 at this; omega⟩

/-- Columns from `o` of the projection, each batch's last 512 rows. -/
def tailOf (x : Fin 8 → Fin 4096 → Fin 2048 → EReal) (w : Fin 2048 → Fin 3904 → EReal) (o : Fin 2881) : Vec Ideal S8x512x1024 .f32 := fun i =>
  proj x w (i 0) ⟨3584 + (i 1).val, by have := (i 1).isLt; change _ < 512 at this; omega⟩
    ⟨o.val + (i 2).val, by have := (i 2).isLt; change _ < 1024 at this; omega⟩

/-- The value columns by blocks of 512 rows, transposed, with ones after each head's 128. -/
def valsOf (x : Fin 8 → Fin 4096 → Fin 2048 → EReal) (w : Fin 2048 → Fin 3904 → EReal) : Vec Ideal S64x1152x512 .bf16 := fun i =>
  if h : (i 1).val % 144 < 128 then
    proj x w ⟨(i 0).val / 8, by have := (i 0).isLt; change _ < 64 at this; omega⟩
      ⟨(i 0).val % 8 * 512 + (i 2).val, by have := (i 2).isLt; change _ < 512 at this; omega⟩
      ⟨2880 + ((i 1).val / 144 * 128 + (i 1).val % 144), by have := (i 1).isLt; change _ < 1152 at this; omega⟩
  else (1 : EReal)

/-- The query array after the run. -/
theorem final3 (c : Dev nD) : (dats (F := Ideal) m 0 c).arrAt 3 cfg0.N = rowsOf (X m c) (W m c) 832 := by
  refine (dats (F := Ideal) m 0 c).arrAt_eq_of_covers 3 _ (by decide +kernel) fun t hf y => ?_
  have ht : t.val < 128 := t.isLt
  obtain ⟨r, j, rfl⟩ : ∃ (r : Fin 256) (j : Fin 1024), y = ix2 r j := ⟨y 0, y 1, by funext a; fin_cases a <;> rfl⟩
  have i := (idx t).2.2.2.1
  have a0 : (((cfg0.win 3).blk t).view.emb (ix2 r j) 0 : ℕ) = t.val * 256 + r.val := by
    blk_simp [i]
    try rfl
  have a1 : (((cfg0.win 3).blk t).view.emb (ix2 r j) 1 : ℕ) = j.val := by
    blk_simp [i]
    try rfl
  have key : rc (iblk m c 0 t) (iblk m c 1 t) r ⟨j.val, by omega⟩
      = rowsOf (X m c) (W m c) 832 (((cfg0.win 3).blk t).view.emb (ix2 r j)) := by
    unfold rowsOf
    refine row_col m c t _ _ rfl rfl r _ _ _ _ ?_ ?_ ?_
    · show _ / 4096 = _
      rw [a0]
    · show _ % 4096 = _
      rw [a0]
    · show 832 + _ = 832 + _
      rw [a1]
  blk_simp
  rw [after0_3]
  by_cases h : t.val % 16 = 14 ∨ t.val % 16 = 15
  · rw [outsAt0_B m c t h]
    dsimp only
    have o := out3_B c t ((hcond0_0 t).mpr h) (iblk m c 0 t) (iblk m c 1 t) (iblk m c 2 t) r j
    have o2 := o.trans key
    refine Eq.trans ?_ o2
    with_unfolding_none rfl
  · rw [outsAt0_A m c t h]
    dsimp only
    have o := out3_A c t (fun k => h ((hcond0_0 t).mp k)) (iblk m c 0 t) (iblk m c 1 t) (iblk m c 2 t) r j
    have o2 := o.trans key
    refine Eq.trans ?_ o2
    with_unfolding_none rfl

/-- The key array after the run. -/
theorem final4 (c : Dev nD) : (dats (F := Ideal) m 0 c).arrAt 4 cfg0.N = rowsOf (X m c) (W m c) 1856 := by
  refine (dats (F := Ideal) m 0 c).arrAt_eq_of_covers 4 _ (by decide +kernel) fun t hf y => ?_
  have ht : t.val < 128 := t.isLt
  obtain ⟨r, j, rfl⟩ : ∃ (r : Fin 256) (j : Fin 1024), y = ix2 r j := ⟨y 0, y 1, by funext a; fin_cases a <;> rfl⟩
  have i := (idx t).2.2.2.2.1
  have a0 : (((cfg0.win 4).blk t).view.emb (ix2 r j) 0 : ℕ) = t.val * 256 + r.val := by
    blk_simp [i]
    try rfl
  have a1 : (((cfg0.win 4).blk t).view.emb (ix2 r j) 1 : ℕ) = j.val := by
    blk_simp [i]
    try rfl
  have key : rc (iblk m c 0 t) (iblk m c 1 t) r ⟨1024 + j.val, by omega⟩
      = rowsOf (X m c) (W m c) 1856 (((cfg0.win 4).blk t).view.emb (ix2 r j)) := by
    unfold rowsOf
    refine row_col m c t _ _ rfl rfl r _ _ _ _ ?_ ?_ ?_
    · show _ / 4096 = _
      rw [a0]
    · show _ % 4096 = _
      rw [a0]
    · show 1856 + _ = 832 + _
      rw [a1]
      show 1856 + j.val = 832 + (1024 + j.val); omega
  blk_simp
  rw [after0_4]
  by_cases h : t.val % 16 = 14 ∨ t.val % 16 = 15
  · rw [outsAt0_B m c t h]
    dsimp only
    have o := out4_B c t ((hcond0_0 t).mpr h) (iblk m c 0 t) (iblk m c 1 t) (iblk m c 2 t) r j
    have o2 := o.trans key
    refine Eq.trans ?_ o2
    with_unfolding_none rfl
  · rw [outsAt0_A m c t h]
    dsimp only
    have o := out4_A c t (fun k => h ((hcond0_0 t).mp k)) (iblk m c 0 t) (iblk m c 1 t) (iblk m c 2 t) r j
    have o2 := o.trans key
    refine Eq.trans ?_ o2
    with_unfolding_none rfl

/-- The kept key array after the run. -/
theorem final6 (c : Dev nD) : (dats (F := Ideal) m 0 c).arrAt 6 cfg0.N = tailOf (X m c) (W m c) 1856 := by
  refine (dats (F := Ideal) m 0 c).arrAt_eq_of_covers 6 _ (by decide +kernel) fun t hf y => ?_
  have ht : t.val < 128 := t.isLt
  obtain ⟨u, r, j, rfl⟩ : ∃ (u : Fin 1) (r : Fin 256) (j : Fin 1024), y = ix3 u r j := ⟨y 0, y 1, y 2, by funext a; fin_cases a <;> rfl⟩
  have h : t.val % 16 = 14 ∨ t.val % 16 = 15 := by
    by_contra h
    exact Bool.noConfusion (hf.symm.trans (noFlush0_6_A t fun k => h ((hcond0_0 t).mp k)))
  have i := (idx t).2.2.2.2.2.2.1
  have hu : u.val = 0 := by omega
  have a0 : (((cfg0.win 6).blk t).view.emb (ix3 u r j) 0 : ℕ) = t.val / 16 := by
    blk_simp [i]
    try simp only [hu]
    try rfl
  have a1 : (((cfg0.win 6).blk t).view.emb (ix3 u r j) 1 : ℕ) = (t.val % 16 - 14) * 256 + r.val := by
    blk_simp [i]
    try rfl
  have a2 : (((cfg0.win 6).blk t).view.emb (ix3 u r j) 2 : ℕ) = j.val := by
    blk_simp [i]
    try rfl
  have key : rc (iblk m c 0 t) (iblk m c 1 t) r ⟨1024 + j.val, by omega⟩
      = tailOf (X m c) (W m c) 1856 (((cfg0.win 6).blk t).view.emb (ix3 u r j)) := by
    unfold tailOf
    refine row_col m c t _ _ rfl rfl r _ _ _ _ ?_ ?_ ?_
    · rw [a0]
      omega
    · show 3584 + _ = _
      rw [a1]
      omega
    · show 1856 + _ = 832 + (1024 + j.val)
      rw [a2]
      omega
  blk_simp
  rw [after0_6, outsAt0_B m c t h]
  dsimp only
  have o := out6_B c t ((hcond0_0 t).mpr h) (iblk m c 0 t) (iblk m c 1 t) (iblk m c 2 t) u r j
  have o2 := o.trans key
  refine Eq.trans ?_ o2
  with_unfolding_none rfl

/-- The kept value array after the run. -/
theorem final7 (c : Dev nD) : (dats (F := Ideal) m 0 c).arrAt 7 cfg0.N = tailOf (X m c) (W m c) 2880 := by
  refine (dats (F := Ideal) m 0 c).arrAt_eq_of_covers 7 _ (by decide +kernel) fun t hf y => ?_
  have ht : t.val < 128 := t.isLt
  obtain ⟨u, r, j, rfl⟩ : ∃ (u : Fin 1) (r : Fin 256) (j : Fin 1024), y = ix3 u r j := ⟨y 0, y 1, y 2, by funext a; fin_cases a <;> rfl⟩
  have h : t.val % 16 = 14 ∨ t.val % 16 = 15 := by
    by_contra h
    exact Bool.noConfusion (hf.symm.trans (noFlush0_7_A t fun k => h ((hcond0_0 t).mp k)))
  have i := (idx t).2.2.2.2.2.2.2
  have hu : u.val = 0 := by omega
  have a0 : (((cfg0.win 7).blk t).view.emb (ix3 u r j) 0 : ℕ) = t.val / 16 := by
    blk_simp [i]
    try simp only [hu]
    try rfl
  have a1 : (((cfg0.win 7).blk t).view.emb (ix3 u r j) 1 : ℕ) = (t.val % 16 - 14) * 256 + r.val := by
    blk_simp [i]
    try rfl
  have a2 : (((cfg0.win 7).blk t).view.emb (ix3 u r j) 2 : ℕ) = j.val := by
    blk_simp [i]
    try rfl
  have key : rc (iblk m c 0 t) (iblk m c 1 t) r ⟨2048 + j.val, by omega⟩
      = tailOf (X m c) (W m c) 2880 (((cfg0.win 7).blk t).view.emb (ix3 u r j)) := by
    unfold tailOf
    refine row_col m c t _ _ rfl rfl r _ _ _ _ ?_ ?_ ?_
    · rw [a0]
      omega
    · show 3584 + _ = _
      rw [a1]
      omega
    · show 2880 + _ = 832 + (2048 + j.val)
      rw [a2]
      omega
  blk_simp
  rw [after0_7, outsAt0_B m c t h]
  dsimp only
  have o := out7_B c t ((hcond0_0 t).mpr h) (iblk m c 0 t) (iblk m c 1 t) (iblk m c 2 t) u r j
  have o2 := o.trans key
  refine Eq.trans ?_ o2
  with_unfolding_none rfl

/-- The value array after the run. -/
theorem final5 (c : Dev nD) : (dats (F := Ideal) m 0 c).arrAt 5 cfg0.N = valsOf (X m c) (W m c) := by
  refine (dats (F := Ideal) m 0 c).arrAt_eq_of_covers 5 _ (by decide +kernel) fun t hf y => ?_
  have ht : t.val < 128 := t.isLt
  obtain ⟨u, r, j, rfl⟩ : ∃ (u : Fin 1) (r : Fin 1152) (j : Fin 256), y = ix3 u r j := ⟨y 0, y 1, y 2, by funext a; fin_cases a <;> rfl⟩
  have i := (idx t).2.2.2.2.2.1
  have hu : u.val = 0 := by omega
  have a0 : (((cfg0.win 5).blk t).view.emb (ix3 u r j) 0 : ℕ) = t.val / 2 := by
    blk_simp [i]
    try simp only [hu]
    try rfl
  have a1 : (((cfg0.win 5).blk t).view.emb (ix3 u r j) 1 : ℕ) = r.val := by
    blk_simp [i]
    try rfl
  have a2 : (((cfg0.win 5).blk t).view.emb (ix3 u r j) 2 : ℕ) = t.val % 2 * 256 + j.val := by
    blk_simp [i]
    try rfl
  have key : vblk (iblk m c 0 t) (iblk m c 2 t) r j = valsOf (X m c) (W m c) (((cfg0.win 5).blk t).view.emb (ix3 u r j)) := by
    unfold vblk valsOf
    by_cases h : r.val % 144 < 128
    · rw [dif_pos h, dif_pos (by rw [a1]; exact h)]
      refine col_row m c t _ _ rfl rfl j _ _ _ _ ?_ ?_ ?_
      · show _ / 8 = _
        rw [a0]; omega
      · show _ % 8 * 512 + _ = _
        rw [a0, a2]; omega
      · show 2880 + (_ / 144 * 128 + _ % 144) = _
        rw [a1]
    · rw [dif_neg h, dif_neg (by rw [a1]; exact h)]
  blk_simp
  rw [after0_5]
  by_cases h : t.val % 16 = 14 ∨ t.val % 16 = 15
  · rw [outsAt0_B m c t h]
    exact (out5_B c t ((hcond0_0 t).mpr h) (iblk m c 0 t) (iblk m c 1 t) (iblk m c 2 t) u r j).trans key
  · rw [outsAt0_A m c t h]
    exact (out5_A c t (fun k => h ((hcond0_0 t).mp k)) (iblk m c 0 t) (iblk m c 1 t) (iblk m c 2 t) u r j).trans key

end Cert.Band

end
-- ==== Proof.BandRef.lean ====
/-
  The band projection's reference, entry by entry: the products of the arguments.
-/
module

public import proofs.«01_k».proof.Proof.BandValue
public import proofs.«01_k».proof.Proof.Gen.BandReferenceIdeal.Run

@[expose] public section

set_option maxRecDepth 16384

noncomputable section

namespace Cert.Band

open Cert.BandReferenceIdeal Cert.BandReferenceIdeal.Gen
open Idealize.ShloMosaic Idealize.ShloMosaic.TcCoe Idealize.ShloMosaic.Tactic

variable (x : FVec Ideal S8x4096x2048 .f32) (w : FVec Ideal S2048x3904 .f32)

/-- The reference's queries, or with the other offset its keys, all rows in one axis. -/
theorem refRows (o : ℕ) (ho : o ≤ 2880) (hs : S8x4096x3904.Slices ![0, 0, o] S8x4096x1024) (R : Fin 32768) (j : Fin 1024) :
    (truncf .bf16 (shapeCast S32768x1024 (extractStridedSlice S8x4096x1024 ![0, 0, o] (Host.dotGeneral (F := Ideal) dot_S8x4096x2048_S2048x3904_S8x4096x3904_2_0_01_1_n_n none x w) hs) shapeCasts_S8x4096x1024_S32768x1024) bitsLt_bf16_f32 : FVec Ideal S32768x1024 .bf16) (ix2 R j)
      = proj (fun b t d => x (ix3 b t d)) (fun d j => w (ix2 d j)) ⟨R.val / 4096, by omega⟩ ⟨R.val % 4096, by omega⟩ ⟨o + j.val, by omega⟩ := by
  unfold proj
  pointwise []

/-- The reference's kept rows. -/
theorem refTail (o : ℕ) (ho : o ≤ 2880) (hs : S8x4096x3904.Slices ![0, 0, o] S8x4096x1024) (b : Fin 8) (t : Fin 512) (j : Fin 1024) :
    (extractStridedSlice S8x512x1024 ![0, 3584, 0] (extractStridedSlice S8x4096x1024 ![0, 0, o] (Host.dotGeneral (F := Ideal) dot_S8x4096x2048_S2048x3904_S8x4096x3904_2_0_01_1_n_n none x w) hs) slices_S8x4096x1024_S8x512x1024_0_3584_0 : FVec Ideal S8x512x1024 .f32) (ix3 b t j)
      = proj (fun b t d => x (ix3 b t d)) (fun d j => w (ix2 d j)) b ⟨3584 + t.val, by omega⟩ ⟨o + j.val, by omega⟩ := by
  unfold proj
  pointwise []

/-- The reference's values as the attention reads them. -/
theorem refVals (B : Fin 64) (C : Fin 1152) (j : Fin 512) :
    (truncf .bf16 (shapeCast S64x1152x512 (concatenate S64x8x144x512 2 [⟨S64x8x128x512, (transpose S64x8x128x512 [0, 2, 3, 1] (shapeCast S64x512x8x128 (extractStridedSlice S8x4096x1024 ![0, 0, 2880] (Host.dotGeneral (F := Ideal) dot_S8x4096x2048_S2048x3904_S8x4096x3904_2_0_01_1_n_n none x w) slices_S8x4096x3904_S8x4096x1024_0_0_2880) shapeCasts_S8x4096x1024_S64x512x8x128) transposes_S64x512x8x128_S64x8x128x512_0_2_3_1)⟩, ⟨S64x8x16x512, (broadcastInDim S64x8x16x512 ![] bcast_S_S64x8x16x512 (constant S_ .f32 0x3F800000#32))⟩] concatenates_S64x8x128x512_S64x8x16x512_S64x8x144x512_d2) shapeCasts_S64x8x144x512_S64x1152x512) bitsLt_bf16_f32 : FVec Ideal S64x1152x512 .bf16) (ix3 B C j)
      = if h : C.val % 144 < 128 then
          proj (fun b t d => x (ix3 b t d)) (fun d j => w (ix2 d j)) ⟨B.val / 8, by omega⟩ ⟨B.val % 8 * 512 + j.val, by omega⟩ ⟨2880 + (C.val / 144 * 128 + C.val % 144), by omega⟩
        else (1 : EReal) := by
  unfold proj
  pointwise []

/-- All of the reference's queries or keys. -/
theorem refRows_eq (o : Fin 2881) (hs : S8x4096x3904.Slices ![0, 0, o.val] S8x4096x1024) :
    (truncf .bf16 (shapeCast S32768x1024 (extractStridedSlice S8x4096x1024 ![0, 0, o.val] (Host.dotGeneral (F := Ideal) dot_S8x4096x2048_S2048x3904_S8x4096x3904_2_0_01_1_n_n none x w) hs) shapeCasts_S8x4096x1024_S32768x1024) bitsLt_bf16_f32 : FVec Ideal S32768x1024 .bf16)
      = rowsOf (fun b t d => x (ix3 b t d)) (fun d j => w (ix2 d j)) o := by
  funext i
  obtain ⟨R, j, rfl⟩ : ∃ (R : Fin 32768) (j : Fin 1024), i = ix2 R j := ⟨i 0, i 1, by funext a; fin_cases a <;> rfl⟩
  exact refRows x w o.val (by omega) hs R j

/-- All of the reference's kept rows. -/
theorem refTail_eq (o : Fin 2881) (hs : S8x4096x3904.Slices ![0, 0, o.val] S8x4096x1024) :
    (extractStridedSlice S8x512x1024 ![0, 3584, 0] (extractStridedSlice S8x4096x1024 ![0, 0, o.val] (Host.dotGeneral (F := Ideal) dot_S8x4096x2048_S2048x3904_S8x4096x3904_2_0_01_1_n_n none x w) hs) slices_S8x4096x1024_S8x512x1024_0_3584_0 : FVec Ideal S8x512x1024 .f32)
      = tailOf (fun b t d => x (ix3 b t d)) (fun d j => w (ix2 d j)) o := by
  funext i
  obtain ⟨b, t, j, rfl⟩ : ∃ (b : Fin 8) (t : Fin 512) (j : Fin 1024), i = ix3 b t j := ⟨i 0, i 1, i 2, by funext a; fin_cases a <;> rfl⟩
  exact refTail x w o.val (by omega) hs b t j

/-- All of the reference's values. -/
theorem refVals_eq :
    (truncf .bf16 (shapeCast S64x1152x512 (concatenate S64x8x144x512 2 [⟨S64x8x128x512, (transpose S64x8x128x512 [0, 2, 3, 1] (shapeCast S64x512x8x128 (extractStridedSlice S8x4096x1024 ![0, 0, 2880] (Host.dotGeneral (F := Ideal) dot_S8x4096x2048_S2048x3904_S8x4096x3904_2_0_01_1_n_n none x w) slices_S8x4096x3904_S8x4096x1024_0_0_2880) shapeCasts_S8x4096x1024_S64x512x8x128) transposes_S64x512x8x128_S64x8x128x512_0_2_3_1)⟩, ⟨S64x8x16x512, (broadcastInDim S64x8x16x512 ![] bcast_S_S64x8x16x512 (constant S_ .f32 0x3F800000#32))⟩] concatenates_S64x8x128x512_S64x8x16x512_S64x8x144x512_d2) shapeCasts_S64x8x144x512_S64x1152x512) bitsLt_bf16_f32 : FVec Ideal S64x1152x512 .bf16)
      = valsOf (fun b t d => x (ix3 b t d)) (fun d j => w (ix2 d j)) := by
  funext i
  obtain ⟨B, C, j, rfl⟩ : ∃ (B : Fin 64) (C : Fin 1152) (j : Fin 512), i = ix3 B C j := ⟨i 0, i 1, i 2, by funext a; fin_cases a <;> rfl⟩
  exact refVals x w B C j

end Cert.Band

end
-- ==== Proof.MlaTrip.lean ====
/-
  One trip of the attention kernel's loop over pairs of key blocks, on whole staging memrefs: what a trip reads and what
  it leaves in each buffer, as functions of the buffers' values before it. A trip is of one of two kinds: two blocks below
  the diagonal (every lane of the query tile sees both), or the two diagonal blocks of a query tile, after which the
  tile's result is stored and the running maximum and accumulator are reset.
-/
module

public import proofs.«01_k».proof.Proof.Gen.KernelIdeal.Skeleton
public import proofs.«01_k».proof.Proof.Gen.KernelIdeal.Loops
public import proofs.«01_k».proof.Proof.Gen.KernelIdeal.Launch
public import Idealize.ShloMosaic.Lib.VecWindow
public import Idealize.ShloMosaic.Lib.ValueIdx

@[expose] public section

set_option maxRecDepth 16384

noncomputable section

namespace Cert.Mla.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Windows of the inputs, as total functions of the first row -/

/-- Rows `n ..` (1024 of them) of a 4096-row block. -/
def rowsL (x : Vec F S4096x256 .bf16) (n : ℕ) : Vec F S1024x256 .bf16 :=
  fun y => x (ix2 ⟨(n + (y 0).val) % 4096, Nat.mod_lt _ (by decide)⟩ ⟨(y 1).val, (y 1).isLt⟩)
/-- Rows `n ..` (512 of them) of a 4096-row block. -/
def rowsS (x : Vec F S4096x256 .bf16) (n : ℕ) : Vec F S512x256 .bf16 :=
  fun y => x (ix2 ⟨(n + (y 0).val) % 4096, Nat.mod_lt _ (by decide)⟩ ⟨(y 1).val, (y 1).isLt⟩)
/-- Slab `n` of the eight value slabs. -/
def slab (x : Vec F S8x144x512 .bf16) (n : ℕ) : Vec F S1x144x512 .bf16 :=
  fun y => x (ix3 ⟨(n + (y 0).val) % 8, Nat.mod_lt _ (by decide)⟩ ⟨(y 1).val, (y 1).isLt⟩ ⟨(y 2).val, (y 2).isLt⟩)
/-- Entry `n` of the table of query tiles. -/
def tabQ (n : ℕ) : BitVec 32 := lit0 ⟨n % 20, Nat.mod_lt _ (by decide)⟩
/-- Entry `n` of the table of key blocks. -/
def tabJ (n : ℕ) : BitVec 32 := lit1 ⟨n % 20, Nat.mod_lt _ (by decide)⟩

theorem read_rowsL (a : Memref sig .tc .vmem S4096x256 .bf16) (f : a.view.ty.Contents (Elt F)) (o : Fin 2 → ℕ)
    (inb : ∀ i, o i + S1024x256.size i ≤ S4096x256.size i) :
    a.view.readAt (Elt F) (Rect.unit (s := S4096x256) o S1024x256.size inb).toLoadRect f = rowsL (a.view.read (Elt F) f) (o 0) := by
  funext y
  show a.view.read (Elt F) f _ = a.view.read (Elt F) f _
  congr 1
  funext i
  apply Fin.ext
  have h0 := inb 0; have h1 := inb 1
  have y0 := (y 0).isLt
  match i with
  | ⟨0, _⟩ =>
    show o 0 + 1 * (y 0).val = (o 0 + (y 0).val) % 4096
    change (y 0).val < 1024 at y0
    change o 0 + 1024 ≤ 4096 at h0
    omega
  | ⟨1, _⟩ =>
    show o 1 + 1 * (y 1).val = (y 1).val
    change o 1 + 256 ≤ 256 at h1
    omega

theorem read_rowsS (a : Memref sig .tc .vmem S4096x256 .bf16) (f : a.view.ty.Contents (Elt F)) (o : Fin 2 → ℕ)
    (inb : ∀ i, o i + S512x256.size i ≤ S4096x256.size i) :
    a.view.readAt (Elt F) (Rect.unit (s := S4096x256) o S512x256.size inb).toLoadRect f = rowsS (a.view.read (Elt F) f) (o 0) := by
  funext y
  show a.view.read (Elt F) f _ = a.view.read (Elt F) f _
  congr 1
  funext i
  apply Fin.ext
  have h0 := inb 0; have h1 := inb 1
  have y0 := (y 0).isLt
  match i with
  | ⟨0, _⟩ =>
    show o 0 + 1 * (y 0).val = (o 0 + (y 0).val) % 4096
    change (y 0).val < 512 at y0
    change o 0 + 512 ≤ 4096 at h0
    omega
  | ⟨1, _⟩ =>
    show o 1 + 1 * (y 1).val = (y 1).val
    change o 1 + 256 ≤ 256 at h1
    omega

theorem read_slab (a : Memref sig .tc .vmem S8x144x512 .bf16) (f : a.view.ty.Contents (Elt F)) (o : Fin 3 → ℕ)
    (inb : ∀ i, o i + S1x144x512.size i ≤ S8x144x512.size i) :
    a.view.readAt (Elt F) (Rect.unit (s := S8x144x512) o S1x144x512.size inb).toLoadRect f = slab (a.view.read (Elt F) f) (o 0) := by
  funext y
  show a.view.read (Elt F) f _ = a.view.read (Elt F) f _
  congr 1
  funext i
  apply Fin.ext
  have h0 := inb 0; have h1 := inb 1; have h2 := inb 2
  have y0 := (y 0).isLt
  match i with
  | ⟨0, _⟩ =>
    show o 0 + 1 * (y 0).val = (o 0 + (y 0).val) % 8
    change (y 0).val < 1 at y0
    change o 0 + 1 ≤ 8 at h0
    omega
  | ⟨1, _⟩ =>
    show o 1 + 1 * (y 1).val = (y 1).val
    change o 1 + 144 ≤ 144 at h1
    omega
  | ⟨2, _⟩ =>
    show o 2 + 1 * (y 2).val = (y 2).val
    change o 2 + 512 ≤ 512 at h2
    omega

/-- The two tables as the pipeline stages them. -/
def tblQ : Vec F S20 .i32 := fun i => lit0 (S20.rowMajor i)
def tblJ : Vec F S20 .i32 := fun i => lit1 (S20.rowMajor i)

theorem read_tabQ (a : Memref sig .tc .smem S20 .i32) (f : a.view.ty.Contents (Elt F)) (h : a.view.read (Elt F) f = tblQ) (o : Fin 1 → ℕ)
    (inb : ∀ i, o i + S1.size i ≤ S20.size i) :
    a.view.readAt (Elt F) (Rect.unit (s := S20) o S1.size inb).toLoadRect f = fun _ => tabQ (o 0) := by
  funext y
  have : a.view.readAt (Elt F) (Rect.unit (s := S20) o S1.size inb).toLoadRect f y = a.view.read (Elt F) f ((Rect.unit (s := S20) o S1.size inb).emb y) := rfl
  rw [this, h]
  have h0 := inb 0
  have y0 := (y 0).isLt
  change (y 0).val < 1 at y0
  change o 0 + 1 ≤ 20 at h0
  show lit0 _ = lit0 _
  congr 1
  apply Fin.ext
  rw [Shape.rowMajor_val_one]
  show o 0 + 1 * (y 0).val = o 0 % 20
  omega

theorem read_tabJ (a : Memref sig .tc .smem S20 .i32) (f : a.view.ty.Contents (Elt F)) (h : a.view.read (Elt F) f = tblJ) (o : Fin 1 → ℕ)
    (inb : ∀ i, o i + S1.size i ≤ S20.size i) :
    a.view.readAt (Elt F) (Rect.unit (s := S20) o S1.size inb).toLoadRect f = fun _ => tabJ (o 0) := by
  funext y
  have : a.view.readAt (Elt F) (Rect.unit (s := S20) o S1.size inb).toLoadRect f y = a.view.read (Elt F) f ((Rect.unit (s := S20) o S1.size inb).emb y) := rfl
  rw [this, h]
  have h0 := inb 0
  have y0 := (y 0).isLt
  change (y 0).val < 1 at y0
  change o 0 + 1 ≤ 20 at h0
  show lit1 _ = lit1 _
  congr 1
  apply Fin.ext
  rw [Shape.rowMajor_val_one]
  show o 0 + 1 * (y 0).val = o 0 % 20
  omega

/-! ## The state between trips and the two kinds of trip -/

/-- What the seven written buffers hold. -/
structure St (F : FTy → Type) [FloatOps F] where
  m : Vec F S1x1024 .f32
  acc : Vec F S144x1024 .f32
  sa : Vec F S512x1024 .f32
  sb : Vec F S512x1024 .f32
  ma : Vec F S1x1024 .f32
  mb : Vec F S1x1024 .f32
  o : Vec F S4096x128 .bf16

/-- A trip below the diagonal: the second score block is made, the first folded in, then the next first block made and
    the second folded in. -/
def stepA (q q' : Vec F S1024x256 .bf16) (k k' : Vec F S512x256 .bf16) (v v' : Vec F S1x144x512 .bf16) (s : St F) : St F :=
  let m1 := k0_pay61 (k0_pay5 s.ma s.m)
  let acc1 := k0_pay60 (k0_pay6 s.sa s.ma s.m) (k0_pay7 s.ma s.m) s.acc v
  let sb := k0_pay3 k q
  let mb := k0_pay4 k q
  { m := k0_pay65 (k0_pay34 mb m1)
    acc := k0_pay64 (k0_pay35 sb mb m1) (k0_pay36 mb m1) acc1 v'
    sa := k0_pay32 k' q'
    sb := sb
    ma := k0_pay33 k' q'
    mb := mb
    o := s.o }

/-- Low and high lanes of the score blocks, the row vectors and the accumulator. -/
def loS (x : Vec F S512x1024 .f32) : Vec F S512x512 .f32 := VecWindow.window (s := S512x1024) x ![0, 0] S512x512.size inb_S512x1024_S512x512_0_0
def hiS (x : Vec F S512x1024 .f32) : Vec F S512x512 .f32 := VecWindow.window (s := S512x1024) x ![0, 512] S512x512.size inb_S512x1024_S512x512_0_512
def loM (x : Vec F S1x1024 .f32) : Vec F S1x512 .f32 := VecWindow.window (s := S1x1024) x ![0, 0] S1x512.size inb_S1x1024_S1x512_0_0
def hiM (x : Vec F S1x1024 .f32) : Vec F S1x512 .f32 := VecWindow.window (s := S1x1024) x ![0, 512] S1x512.size inb_S1x1024_S1x512_0_512
def loA (x : Vec F S144x1024 .f32) : Vec F S144x512 .f32 := VecWindow.window (s := S144x1024) x ![0, 0] S144x512.size inb_S144x1024_S144x512_0_0
def hiA (x : Vec F S144x1024 .f32) : Vec F S144x512 .f32 := VecWindow.window (s := S144x1024) x ![0, 512] S144x512.size inb_S144x1024_S144x512_0_512

/-- The accumulator after both diagonal blocks of a query tile. -/
def accB (qh : Vec F S512x256 .bf16) (k : Vec F S512x256 .bf16) (v v' : Vec F S1x144x512 .bf16) (v50 : IVec S512x512 1) (s : St F) : Vec F S144x1024 .f32 :=
  let accL := k0_pay15 (k0_pay13 v50 (loS s.sa) (loM s.m)) (k0_pay14 v50 (loS s.sa) (loM s.m)) (loA s.acc) v
  let accH := k0_pay62 (k0_pay18 (hiS s.sa) (hiM s.ma) (hiM s.m) (hiA s.acc) v)
  let mH := k0_pay63 (k0_pay17 (hiM s.ma) (hiM s.m))
  let sbH := k0_pay9 k qh
  let accH' := k0_pay55 (k0_pay53 v50 sbH mH) (k0_pay54 v50 sbH mH) accH v'
  VecWindow.put (s := S144x1024) (VecWindow.put (s := S144x1024) s.acc ![0, 0] S144x512.size accL) ![0, 512] S144x512.size accH'

/-- A trip on the diagonal: the masked first block for the low lanes, the whole first block for the high lanes, the
    masked second block for the high lanes; the query tile's rows of the result stored, the tile's state reset. -/
def stepB (n : ℕ) (qh : Vec F S512x256 .bf16) (q' : Vec F S1024x256 .bf16) (k k' : Vec F S512x256 .bf16) (v v' : Vec F S1x144x512 .bf16)
    (v50 : IVec S512x512 1) (s : St F) : St F :=
  { m := k0_pay58 (F := F)
    acc := k0_pay59 (F := F)
    sa := k0_pay49 k' q'
    sb := VecWindow.put (s := S512x1024) s.sb ![0, 512] S512x512.size (k0_pay9 k qh)
    ma := k0_pay50 k' q'
    mb := VecWindow.put (s := S1x1024) s.mb ![0, 512] S1x512.size (k0_pay10 k qh)
    o := VecWindow.put (s := S4096x128) s.o ![n, 0] S1024x128.size (k0_pay57 (accB qh k v v' v50 s)) }

/-! ## The tables' words -/

def qi (k : ℕ) : ℕ := (tabQ (2 * k)).toNat
def j0 (k : ℕ) : ℕ := (tabJ (2 * k)).toNat
def qN (k : ℕ) : ℕ := (tabQ (min (2 * k + 2) 19)).toNat
def jN (k : ℕ) : ℕ := (tabJ (min (2 * k + 2) 19)).toNat

/-- One trip. -/
def stepAt (x0 x1 : Vec F S4096x256 .bf16) (x2 : Vec F S8x144x512 .bf16) (v50 : IVec S512x512 1) (k : ℕ) (s : St F) : St F :=
  if j0 k < 2 * qi k then
    stepA (rowsL x0 (1024 * qi k)) (rowsL x0 (1024 * qN k)) (rowsS x1 (512 * (j0 k + 1))) (rowsS x1 (512 * jN k)) (slab x2 (j0 k)) (slab x2 (j0 k + 1)) s
  else
    stepB (1024 * qi k) (rowsS x0 (1024 * qi k + 512)) (rowsL x0 (1024 * qN k)) (rowsS x1 (512 * (j0 k + 1))) (rowsS x1 (512 * jN k)) (slab x2 (j0 k)) (slab x2 (j0 k + 1)) v50 s

/-- What the checks, the branches and the offsets of a trip below the diagonal come to. -/
structure FactsA (k : Fin k0_t1_loop.trips) : Prop where
  h5 : k0_chk5 (tabQ (k0_off5 k 0)) (tabJ (k0_off5 k 0))
  c1 : k0_cond1 (tabQ (k0_off5 k 0)) (tabJ (k0_off5 k 0)) = 1#1
  h3 : k0_chk3 (tabQ (k0_off5 k 0)) (tabJ (k0_off5 k 0)) (tabQ (k0_off6 k 0))
  h4 : k0_chk4 (tabQ (k0_off5 k 0)) (tabJ (k0_off5 k 0)) (tabJ (k0_off7 k 0))
  c2 : ¬ k0_cond2 (tabQ (k0_off5 k 0)) (tabJ (k0_off5 k 0)) = 1#1
  c3 : ¬ k0_cond3 (tabQ (k0_off5 k 0)) (tabJ (k0_off5 k 0)) = 1#1
  h12 : k0_chk12 (tabQ (k0_off22 k 0)) (tabJ (k0_off22 k 0))
  c4 : k0_cond4 (tabQ (k0_off22 k 0)) (tabJ (k0_off22 k 0)) = 1#1
  h10 : k0_chk10 (tabQ (k0_off22 k 0)) (tabJ (k0_off22 k 0)) (tabQ (k0_off23 k 0))
  h11 : k0_chk11 (tabQ (k0_off22 k 0)) (tabJ (k0_off22 k 0)) (tabJ (k0_off24 k 0))
  c5 : ¬ k0_cond5 (tabQ (k0_off22 k 0)) (tabJ (k0_off22 k 0)) = 1#1
  c6 : ¬ k0_cond6 (tabQ (k0_off22 k 0)) (tabJ (k0_off22 k 0)) = 1#1
  e9 : k0_off9 (tabQ (k0_off6 k 0)) 0 = 1024 * qi k
  e8 : k0_off8 (tabJ (k0_off7 k 0)) 0 = 512 * (j0 k + 1)
  e10 : k0_off10 (tabJ (k0_off5 k 0)) 0 = j0 k
  e26 : k0_off26 (tabQ (k0_off23 k 0)) 0 = 1024 * qN k
  e25 : k0_off25 (tabJ (k0_off24 k 0)) 0 = 512 * jN k
  e27 : k0_off27 (tabJ (k0_off22 k 0)) 0 = j0 k + 1

theorem factsA : ∀ k : Fin k0_t1_loop.trips, j0 k < 2 * qi k → FactsA k := by
  intro k h
  have h5 : ∀ k : Fin k0_t1_loop.trips, j0 k < 2 * qi k → k0_chk5 (tabQ (k0_off5 k 0)) (tabJ (k0_off5 k 0)) := by decide +kernel
  have c1 : ∀ k : Fin k0_t1_loop.trips, j0 k < 2 * qi k → k0_cond1 (tabQ (k0_off5 k 0)) (tabJ (k0_off5 k 0)) = 1#1 := by decide +kernel
  have h3 : ∀ k : Fin k0_t1_loop.trips, j0 k < 2 * qi k → k0_chk3 (tabQ (k0_off5 k 0)) (tabJ (k0_off5 k 0)) (tabQ (k0_off6 k 0)) := by decide +kernel
  have h4 : ∀ k : Fin k0_t1_loop.trips, j0 k < 2 * qi k → k0_chk4 (tabQ (k0_off5 k 0)) (tabJ (k0_off5 k 0)) (tabJ (k0_off7 k 0)) := by decide +kernel
  have c2 : ∀ k : Fin k0_t1_loop.trips, j0 k < 2 * qi k → ¬ k0_cond2 (tabQ (k0_off5 k 0)) (tabJ (k0_off5 k 0)) = 1#1 := by decide +kernel
  have c3 : ∀ k : Fin k0_t1_loop.trips, j0 k < 2 * qi k → ¬ k0_cond3 (tabQ (k0_off5 k 0)) (tabJ (k0_off5 k 0)) = 1#1 := by decide +kernel
  have h12 : ∀ k : Fin k0_t1_loop.trips, j0 k < 2 * qi k → k0_chk12 (tabQ (k0_off22 k 0)) (tabJ (k0_off22 k 0)) := by decide +kernel
  have c4 : ∀ k : Fin k0_t1_loop.trips, j0 k < 2 * qi k → k0_cond4 (tabQ (k0_off22 k 0)) (tabJ (k0_off22 k 0)) = 1#1 := by decide +kernel
  have h10 : ∀ k : Fin k0_t1_loop.trips, j0 k < 2 * qi k → k0_chk10 (tabQ (k0_off22 k 0)) (tabJ (k0_off22 k 0)) (tabQ (k0_off23 k 0)) := by decide +kernel
  have h11 : ∀ k : Fin k0_t1_loop.trips, j0 k < 2 * qi k → k0_chk11 (tabQ (k0_off22 k 0)) (tabJ (k0_off22 k 0)) (tabJ (k0_off24 k 0)) := by decide +kernel
  have c5 : ∀ k : Fin k0_t1_loop.trips, j0 k < 2 * qi k → ¬ k0_cond5 (tabQ (k0_off22 k 0)) (tabJ (k0_off22 k 0)) = 1#1 := by decide +kernel
  have c6 : ∀ k : Fin k0_t1_loop.trips, j0 k < 2 * qi k → ¬ k0_cond6 (tabQ (k0_off22 k 0)) (tabJ (k0_off22 k 0)) = 1#1 := by decide +kernel
  have e9 : ∀ k : Fin k0_t1_loop.trips, j0 k < 2 * qi k → k0_off9 (tabQ (k0_off6 k 0)) 0 = 1024 * qi k := by decide +kernel
  have e8 : ∀ k : Fin k0_t1_loop.trips, j0 k < 2 * qi k → k0_off8 (tabJ (k0_off7 k 0)) 0 = 512 * (j0 k + 1) := by decide +kernel
  have e10 : ∀ k : Fin k0_t1_loop.trips, j0 k < 2 * qi k → k0_off10 (tabJ (k0_off5 k 0)) 0 = j0 k := by decide +kernel
  have e26 : ∀ k : Fin k0_t1_loop.trips, j0 k < 2 * qi k → k0_off26 (tabQ (k0_off23 k 0)) 0 = 1024 * qN k := by decide +kernel
  have e25 : ∀ k : Fin k0_t1_loop.trips, j0 k < 2 * qi k → k0_off25 (tabJ (k0_off24 k 0)) 0 = 512 * jN k := by decide +kernel
  have e27 : ∀ k : Fin k0_t1_loop.trips, j0 k < 2 * qi k → k0_off27 (tabJ (k0_off22 k 0)) 0 = j0 k + 1 := by decide +kernel
  exact ⟨h5 k h, c1 k h, h3 k h, h4 k h, c2 k h, c3 k h, h12 k h, c4 k h, h10 k h, h11 k h, c5 k h, c6 k h, e9 k h, e8 k h, e10 k h, e26 k h, e25 k h, e27 k h⟩

/-- What the checks, the branches and the offsets of a diagonal trip come to. -/
structure FactsB (k : Fin k0_t1_loop.trips) : Prop where
  h5 : k0_chk5 (tabQ (k0_off5 k 0)) (tabJ (k0_off5 k 0))
  c1 : ¬ k0_cond1 (tabQ (k0_off5 k 0)) (tabJ (k0_off5 k 0)) = 1#1
  c2 : k0_cond2 (tabQ (k0_off5 k 0)) (tabJ (k0_off5 k 0)) = 1#1
  h6 : k0_chk6 (tabQ (k0_off5 k 0)) (tabJ (k0_off5 k 0)) (tabQ (k0_off11 k 0))
  h7 : k0_chk7 (tabQ (k0_off5 k 0)) (tabJ (k0_off5 k 0)) (tabJ (k0_off12 k 0))
  c3 : ¬ k0_cond3 (tabQ (k0_off5 k 0)) (tabJ (k0_off5 k 0)) = 1#1
  h12 : k0_chk12 (tabQ (k0_off22 k 0)) (tabJ (k0_off22 k 0))
  c4 : ¬ k0_cond4 (tabQ (k0_off22 k 0)) (tabJ (k0_off22 k 0)) = 1#1
  c5 : ¬ k0_cond5 (tabQ (k0_off22 k 0)) (tabJ (k0_off22 k 0)) = 1#1
  c6 : k0_cond6 (tabQ (k0_off22 k 0)) (tabJ (k0_off22 k 0)) = 1#1
  h15 : k0_chk15 (tabQ (k0_off22 k 0)) (tabJ (k0_off22 k 0)) (tabQ (k0_off33 k 0))
  h16 : k0_chk16 (tabQ (k0_off22 k 0)) (tabJ (k0_off22 k 0)) (tabJ (k0_off34 k 0))
  e14 : k0_off14 (tabQ (k0_off11 k 0)) 0 = 1024 * qi k + 512
  e13 : k0_off13 (tabJ (k0_off12 k 0)) 0 = 512 * (j0 k + 1)
  e15 : k0_off15 (tabJ (k0_off5 k 0)) 0 = j0 k
  e36 : k0_off36 (tabQ (k0_off33 k 0)) 0 = 1024 * qN k
  e35 : k0_off35 (tabJ (k0_off34 k 0)) 0 = 512 * jN k
  e37 : k0_off37 (tabJ (k0_off22 k 0)) 0 = j0 k + 1
  e38 : k0_off38 (tabQ (k0_off22 k 0)) = ![1024 * qi k, 0]

theorem factsB : ∀ k : Fin k0_t1_loop.trips, ¬ j0 k < 2 * qi k → FactsB k := by
  intro k h
  have h5 : ∀ k : Fin k0_t1_loop.trips, ¬ j0 k < 2 * qi k → k0_chk5 (tabQ (k0_off5 k 0)) (tabJ (k0_off5 k 0)) := by decide +kernel
  have c1 : ∀ k : Fin k0_t1_loop.trips, ¬ j0 k < 2 * qi k → ¬ k0_cond1 (tabQ (k0_off5 k 0)) (tabJ (k0_off5 k 0)) = 1#1 := by decide +kernel
  have c2 : ∀ k : Fin k0_t1_loop.trips, ¬ j0 k < 2 * qi k → k0_cond2 (tabQ (k0_off5 k 0)) (tabJ (k0_off5 k 0)) = 1#1 := by decide +kernel
  have h6 : ∀ k : Fin k0_t1_loop.trips, ¬ j0 k < 2 * qi k → k0_chk6 (tabQ (k0_off5 k 0)) (tabJ (k0_off5 k 0)) (tabQ (k0_off11 k 0)) := by decide +kernel
  have h7 : ∀ k : Fin k0_t1_loop.trips, ¬ j0 k < 2 * qi k → k0_chk7 (tabQ (k0_off5 k 0)) (tabJ (k0_off5 k 0)) (tabJ (k0_off12 k 0)) := by decide +kernel
  have c3 : ∀ k : Fin k0_t1_loop.trips, ¬ j0 k < 2 * qi k → ¬ k0_cond3 (tabQ (k0_off5 k 0)) (tabJ (k0_off5 k 0)) = 1#1 := by decide +kernel
  have h12 : ∀ k : Fin k0_t1_loop.trips, ¬ j0 k < 2 * qi k → k0_chk12 (tabQ (k0_off22 k 0)) (tabJ (k0_off22 k 0)) := by decide +kernel
  have c4 : ∀ k : Fin k0_t1_loop.trips, ¬ j0 k < 2 * qi k → ¬ k0_cond4 (tabQ (k0_off22 k 0)) (tabJ (k0_off22 k 0)) = 1#1 := by decide +kernel
  have c5 : ∀ k : Fin k0_t1_loop.trips, ¬ j0 k < 2 * qi k → ¬ k0_cond5 (tabQ (k0_off22 k 0)) (tabJ (k0_off22 k 0)) = 1#1 := by decide +kernel
  have c6 : ∀ k : Fin k0_t1_loop.trips, ¬ j0 k < 2 * qi k → k0_cond6 (tabQ (k0_off22 k 0)) (tabJ (k0_off22 k 0)) = 1#1 := by decide +kernel
  have h15 : ∀ k : Fin k0_t1_loop.trips, ¬ j0 k < 2 * qi k → k0_chk15 (tabQ (k0_off22 k 0)) (tabJ (k0_off22 k 0)) (tabQ (k0_off33 k 0)) := by decide +kernel
  have h16 : ∀ k : Fin k0_t1_loop.trips, ¬ j0 k < 2 * qi k → k0_chk16 (tabQ (k0_off22 k 0)) (tabJ (k0_off22 k 0)) (tabJ (k0_off34 k 0)) := by decide +kernel
  have e14 : ∀ k : Fin k0_t1_loop.trips, ¬ j0 k < 2 * qi k → k0_off14 (tabQ (k0_off11 k 0)) 0 = 1024 * qi k + 512 := by decide +kernel
  have e13 : ∀ k : Fin k0_t1_loop.trips, ¬ j0 k < 2 * qi k → k0_off13 (tabJ (k0_off12 k 0)) 0 = 512 * (j0 k + 1) := by decide +kernel
  have e15 : ∀ k : Fin k0_t1_loop.trips, ¬ j0 k < 2 * qi k → k0_off15 (tabJ (k0_off5 k 0)) 0 = j0 k := by decide +kernel
  have e36 : ∀ k : Fin k0_t1_loop.trips, ¬ j0 k < 2 * qi k → k0_off36 (tabQ (k0_off33 k 0)) 0 = 1024 * qN k := by decide +kernel
  have e35 : ∀ k : Fin k0_t1_loop.trips, ¬ j0 k < 2 * qi k → k0_off35 (tabJ (k0_off34 k 0)) 0 = 512 * jN k := by decide +kernel
  have e37 : ∀ k : Fin k0_t1_loop.trips, ¬ j0 k < 2 * qi k → k0_off37 (tabJ (k0_off22 k 0)) 0 = j0 k + 1 := by decide +kernel
  have e38 : ∀ k : Fin k0_t1_loop.trips, ¬ j0 k < 2 * qi k → k0_off38 (tabQ (k0_off22 k 0)) = ![1024 * qi k, 0] := by decide +kernel
  exact ⟨h5 k h, c1 k h, c2 k h, h6 k h, h7 k h, c3 k h, h12 k h, c4 k h, c5 k h, c6 k h, h15 k h, h16 k h, e14 k h, e13 k h, e15 k h, e36 k h, e35 k h, e37 k h, e38 k h⟩

/-- A load of a window reads that window of what the view reads. -/
theorem readAt_window {sig : RefSig} {Val : EltTy → Type} {κ : Kind} {sp : Space} {sh : Shape} {e : EltTy} (v : View sig κ sp sh e) (f : v.ty.Contents Val) {off size : Fin sh.rank → ℕ} (inb : ∀ a, off a + size a ≤ sh.size a) :
    v.readAt Val (Rect.unit off size inb).toLoadRect f = VecWindow.window (v.read Val f) off size inb := rfl

/-- A load of a window just stored reads what was stored. -/
theorem readCov_same {sig : RefSig} {Val : EltTy → Type} {κ : Kind} {sp : Space} {sh : Shape} {e : EltTy} [∀ e, Nonempty (Val e)] (v : View sig κ sp sh e) {off size : Fin sh.rank → ℕ} (inb inb' : ∀ a, off a + size a ≤ sh.size a)
    (w : (Rect.unit off size inb').shape.Idx → Val e) (L : List (View.Piece Val sh e)) :
    v.readCov (⟨Rect.unit off size inb', w⟩ :: L) (Rect.unit off size inb).toLoadRect = w := by
  show v.readAt Val (Rect.unit off size inb).toLoadRect (v.writes Val v.junk (⟨Rect.unit off size inb', w⟩ :: L)) = w
  rw [readAt_window, View.read_writes_cons_put v _ inb' w L rfl]
  exact VecWindow.window_put_same _ off size inb w

/-- The low lanes and then the high lanes stored, and the high lanes stored again: nothing of the old contents is left. -/
theorem readCov_halves [∀ e, Nonempty (Elt F e)] (v : View sig .tc .vmem S144x1024 .f32) (x : Vec F S144x1024 .f32)
    (w0 w1 w2 : Vec F S144x512 .f32) :
    v.readCov (Val := Elt F) [⟨Rect.unit (s := S144x1024) ![0, 512] S144x512.size inb_S144x1024_S144x512_0_512, w2⟩, ⟨Rect.unit (s := S144x1024) ![0, 512] S144x512.size inb_S144x1024_S144x512_0_512, w1⟩, ⟨Rect.unit (s := S144x1024) ![0, 0] S144x512.size inb_S144x1024_S144x512_0_0, w0⟩]
        (Rect.unit (s := S144x1024) ![0, 0] S144x1024.size inb_S144x1024_S144x1024_0_0).toLoadRect
      = VecWindow.put (s := S144x1024) (VecWindow.put (s := S144x1024) x ![0, 0] S144x512.size w0) ![0, 512] S144x512.size w2 := by
  have e := View.readAt_full v (v.writes (Elt F) v.junk [⟨Rect.unit (s := S144x1024) ![0, 512] S144x512.size inb_S144x1024_S144x512_0_512, w2⟩, ⟨Rect.unit (s := S144x1024) ![0, 512] S144x512.size inb_S144x1024_S144x512_0_512, w1⟩, ⟨Rect.unit (s := S144x1024) ![0, 0] S144x512.size inb_S144x1024_S144x512_0_0, w0⟩]) (off := ![0, 0]) inb_S144x1024_S144x1024_0_0
  refine e.trans ?_
  rw [View.read_writes_cons_put v _ _ _ _ rfl, View.read_writes_cons_put v _ _ _ _ rfl, View.read_writes_cons_put v _ _ _ _ rfl, VecWindow.put_put_same]
  funext y
  have hy0 : (y 0).val < 144 := (y 0).isLt
  have hy1 : (y 1).val < 1024 := (y 1).isLt
  by_cases h1 : ∀ a : Fin 2, (![0, 512] : Fin 2 → ℕ) a ≤ (y a).val ∧ (y a).val < (![0, 512] : Fin 2 → ℕ) a + S144x512.size a
  · unfold VecWindow.put; rw [dif_pos h1, dif_pos h1]
  · unfold VecWindow.put; rw [dif_neg h1, dif_neg h1]
    have h0 : ∀ a : Fin 2, (![0, 0] : Fin 2 → ℕ) a ≤ (y a).val ∧ (y a).val < (![0, 0] : Fin 2 → ℕ) a + S144x512.size a := by
      have hlt : (y 1).val < 512 := by
        by_contra hge
        exact h1 (Fin.forall_fin_two.2 ⟨⟨Nat.zero_le _, hy0⟩, ⟨Nat.le_of_not_lt hge, hy1⟩⟩)
      exact Fin.forall_fin_two.2 ⟨⟨Nat.zero_le _, hy0⟩, ⟨Nat.zero_le _, (Nat.zero_add 512).symm ▸ hlt⟩⟩
    rw [dif_pos h0, dif_pos h0]

/-! ## The two trips run -/

/-- The twelve buffers the body touches: tables, inputs, and the seven written ones at a state. -/
def Res (c : Dev nD) (arg2 : Memref sig .tc .smem S20 .i32) (arg3 : Memref sig .tc .smem S20 .i32) (arg4 : Memref sig .tc .vmem S4096x256 .bf16) (arg5 : Memref sig .tc .vmem S4096x256 .bf16) (arg6 : Memref sig .tc .vmem S8x144x512 .bf16) (arg7 : Memref sig .tc .vmem S4096x128 .bf16) (arg8 : Memref sig .tc .vmem S1x1024 .f32) (arg9 : Memref sig .tc .vmem S144x1024 .f32) (arg10 : Memref sig .tc .vmem S512x1024 .f32) (arg11 : Memref sig .tc .vmem S512x1024 .f32) (arg12 : Memref sig .tc .vmem S1x1024 .f32) (arg13 : Memref sig .tc .vmem S1x1024 .f32) (x0 x1 : Vec F S4096x256 .bf16) (x2 : Vec F S8x144x512 .bf16) (s : St F) : sProp 𝕄 :=
  iprop(owns (c : Thread nD τ) arg2 fullShare.right (tblQ (F := F)) ∗ owns (c : Thread nD τ) arg3 fullShare.right (tblJ (F := F))
      ∗ owns (c : Thread nD τ) arg4 fullShare x0 ∗ owns (c : Thread nD τ) arg5 fullShare x1 ∗ owns (c : Thread nD τ) arg6 fullShare x2
      ∗ owns (c : Thread nD τ) arg7 fullShare s.o ∗ owns (c : Thread nD τ) arg8 fullShare s.m ∗ owns (c : Thread nD τ) arg9 fullShare s.acc
      ∗ owns (c : Thread nD τ) arg10 fullShare s.sa ∗ owns (c : Thread nD τ) arg11 fullShare s.sb
      ∗ owns (c : Thread nD τ) arg12 fullShare s.ma ∗ owns (c : Thread nD τ) arg13 fullShare s.mb)

end Cert.Mla.KernelIdeal

end
-- ==== Proof.MlaTripA.lean ====
/- The trip below the diagonal, run. -/
module

public import proofs.«01_k».proof.Proof.MlaTrip

@[expose] public section

set_option maxRecDepth 16384

noncomputable section

namespace Cert.Mla.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 400000 in
theorem tripA (c : Dev nD) (i : grid0.Coords) (arg2 : Memref sig .tc .smem S20 .i32) (harg2 : arg2.IsWhole) (arg3 : Memref sig .tc .smem S20 .i32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S8x144x512 .bf16) (harg6 : arg6.IsWhole) (arg7 : Memref sig .tc .vmem S4096x128 .bf16) (harg7 : arg7.IsWhole) (arg8 : Memref sig .tc .vmem S1x1024 .f32) (harg8 : arg8.IsWhole) (arg9 : Memref sig .tc .vmem S144x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (v50 : IVec S512x512 1)
    (x0 x1 : Vec F S4096x256 .bf16) (x2 : Vec F S8x144x512 .bf16) (s : St F) (k : Fin k0_t1_loop.trips) (hk : j0 k < 2 * qi k) :
    Res c arg2 arg3 arg4 arg5 arg6 arg7 arg8 arg9 arg10 arg11 arg12 arg13 x0 x1 x2 s
      ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 v50 k ()) (fun _ => Res c arg2 arg3 arg4 arg5 arg6 arg7 arg8 arg9 arg10 arg11 arg12 arg13 x0 x1 x2 (stepAt x0 x1 x2 v50 k s)) := by
  obtain ⟨h5, c1, h3, h4, c2, c3, h12, c4, h10, h11, c5, c6, e9, e8, e10, e26, e25, e27⟩ := factsA k hk
  unfold Res owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩
  have r2 := read_tabQ arg2 f2 hf2
  have r3 := read_tabJ arg3 f3 hf3
  have r4 := read_rowsL arg4 f4
  have r4' := read_rowsS arg4 f4
  have r5 := read_rowsS arg5 f5
  have r6 := read_slab arg6 f6
  rw [hf4] at r4 r4'
  rw [hf5] at r5
  rw [hf6] at r6
  have g8 : ∀ inb, View.readAt (Elt F) arg8.view (Rect.unit ![0, 0] S1x1024.size inb).toLoadRect f8 = s.m := fun inb => (View.readAt_full _ _ inb).trans hf8
  have g9 : ∀ inb, View.readAt (Elt F) arg9.view (Rect.unit ![0, 0] S144x1024.size inb).toLoadRect f9 = s.acc := fun inb => (View.readAt_full _ _ inb).trans hf9
  have g10 : ∀ inb, View.readAt (Elt F) arg10.view (Rect.unit ![0, 0] S512x1024.size inb).toLoadRect f10 = s.sa := fun inb => (View.readAt_full _ _ inb).trans hf10
  have g11 : ∀ inb, View.readAt (Elt F) arg11.view (Rect.unit ![0, 0] S512x1024.size inb).toLoadRect f11 = s.sb := fun inb => (View.readAt_full _ _ inb).trans hf11
  have g12 : ∀ inb, View.readAt (Elt F) arg12.view (Rect.unit ![0, 0] S1x1024.size inb).toLoadRect f12 = s.ma := fun inb => (View.readAt_full _ _ inb).trans hf12
  have g13 : ∀ inb, View.readAt (Elt F) arg13.view (Rect.unit ![0, 0] S1x1024.size inb).toLoadRect f13 = s.mb := fun inb => (View.readAt_full _ _ inb).trans hf13
  have c8 : ∀ inb inb' w L, arg8.view.readCov (Val := Elt F) (⟨Rect.unit (s := S1x1024) ![0, 0] S1x1024.size inb', w⟩ :: L) (Rect.unit (s := S1x1024) ![0, 0] S1x1024.size inb).toLoadRect = w := fun inb inb' w L => readCov_same arg8.view inb inb' w L
  have c9 : ∀ inb inb' w L, arg9.view.readCov (Val := Elt F) (⟨Rect.unit (s := S144x1024) ![0, 0] S144x1024.size inb', w⟩ :: L) (Rect.unit (s := S144x1024) ![0, 0] S144x1024.size inb).toLoadRect = w := fun inb inb' w L => readCov_same arg9.view inb inb' w L
  have c11 : ∀ inb inb' w L, arg11.view.readCov (Val := Elt F) (⟨Rect.unit (s := S512x1024) ![0, 0] S512x1024.size inb', w⟩ :: L) (Rect.unit (s := S512x1024) ![0, 0] S512x1024.size inb).toLoadRect = w := fun inb inb' w L => readCov_same arg11.view inb inb' w L
  have c13 : ∀ inb inb' w L, arg13.view.readCov (Val := Elt F) (⟨Rect.unit (s := S1x1024) ![0, 0] S1x1024.size inb', w⟩ :: L) (Rect.unit (s := S1x1024) ![0, 0] S1x1024.size inb).toLoadRect = w := fun inb inb' w L => readCov_same arg13.view inb inb' w L
  unfold k0_t1_body
  sl_exec
  sl_step
  isplitl [H2]
  · iexists _; isplitr
    swap; · iexact H2
    ipureintro
    exact hf2
  isplitl [H3]
  · iexists _; isplitr
    swap; · iexact H3
    ipureintro
    exact hf3
  isplitl [H4]
  · iexists _; isplitr
    swap; · iexact H4
    ipureintro
    exact hf4
  isplitl [H5]
  · iexists _; isplitr
    swap; · iexact H5
    ipureintro
    exact hf5
  isplitl [H6]
  · iexists _; isplitr
    swap; · iexact H6
    ipureintro
    exact hf6
  isplitl [H7]
  · iexists _; isplitr
    swap; · iexact H7
    ipureintro
    rw [stepAt, if_pos hk]; exact hf7
  isplitl [H8]
  · iexists _; isplitr
    swap; · iexact H8
    ipureintro
    rw [stepAt, if_pos hk]
    refine (View.read_writes_full _ _ _ _ _).trans ?_
    sl_unfold_run_names
    simp (config := {proj := false}) only [c8, c9, c11, c13, g8, g9, g10, g11, g12, g13, e9, e8, e10, e27]
    unfold stepA
    dsimp (config := {proj := false}) only
    delta k0_pay3 k0_pay4 k0_pay34 k0_pay35 k0_pay36 k0_pay5 k0_pay6 k0_pay7
    rfl
  isplitl [H9]
  · iexists _; isplitr
    swap; · iexact H9
    ipureintro
    rw [stepAt, if_pos hk]
    refine (View.read_writes_full _ _ _ _ _).trans ?_
    sl_unfold_run_names
    simp (config := {proj := false}) only [c8, c9, c11, c13, g8, g9, g10, g11, g12, g13, e9, e8, e10, e27]
    unfold stepA
    dsimp (config := {proj := false}) only
    delta k0_pay3 k0_pay4 k0_pay34 k0_pay35 k0_pay36 k0_pay5 k0_pay6 k0_pay7
    rfl
  isplitl [H10]
  · iexists _; isplitr
    swap; · iexact H10
    ipureintro
    rw [stepAt, if_pos hk]
    refine (View.read_writes_full _ _ _ _ _).trans ?_
    sl_unfold_run_names
    simp only [e26, e25]
    unfold stepA
    dsimp only
    delta k0_pay32
    rfl
  isplitl [H11]
  · iexists _; isplitr
    swap; · iexact H11
    ipureintro
    rw [stepAt, if_pos hk]
    refine (View.read_writes_full _ _ _ _ _).trans ?_
    sl_unfold_run_names
    simp only [e9, e8]
    unfold stepA
    dsimp only
    delta k0_pay3
    rfl
  isplitl [H12]
  · iexists _; isplitr
    swap; · iexact H12
    ipureintro
    rw [stepAt, if_pos hk]
    refine (View.read_writes_full _ _ _ _ _).trans ?_
    sl_unfold_run_names
    simp only [e26, e25]
    unfold stepA
    dsimp only
    delta k0_pay33
    rfl
  iexists _; isplitr
  swap; · iexact H13
  ipureintro
  rw [stepAt, if_pos hk]
  refine (View.read_writes_full _ _ _ _ _).trans ?_
  sl_unfold_run_names
  simp only [e9, e8]
  unfold stepA
  dsimp only
  delta k0_pay4
  rfl

end Cert.Mla.KernelIdeal

end
-- ==== Proof.MlaTripB.lean ====
/- The diagonal trip, run. -/
module

public import proofs.«01_k».proof.Proof.MlaTrip

@[expose] public section

set_option maxRecDepth 16384

noncomputable section

namespace Cert.Mla.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 400000 in
theorem tripB (c : Dev nD) (i : grid0.Coords) (arg2 : Memref sig .tc .smem S20 .i32) (harg2 : arg2.IsWhole) (arg3 : Memref sig .tc .smem S20 .i32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S8x144x512 .bf16) (harg6 : arg6.IsWhole) (arg7 : Memref sig .tc .vmem S4096x128 .bf16) (harg7 : arg7.IsWhole) (arg8 : Memref sig .tc .vmem S1x1024 .f32) (harg8 : arg8.IsWhole) (arg9 : Memref sig .tc .vmem S144x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (v50 : IVec S512x512 1)
    (x0 x1 : Vec F S4096x256 .bf16) (x2 : Vec F S8x144x512 .bf16) (s : St F) (k : Fin k0_t1_loop.trips) (hk : ¬ j0 k < 2 * qi k) :
    Res c arg2 arg3 arg4 arg5 arg6 arg7 arg8 arg9 arg10 arg11 arg12 arg13 x0 x1 x2 s
      ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 v50 k ()) (fun _ => Res c arg2 arg3 arg4 arg5 arg6 arg7 arg8 arg9 arg10 arg11 arg12 arg13 x0 x1 x2 (stepAt x0 x1 x2 v50 k s)) := by
  obtain ⟨h5, c1, c2, h6, h7, c3, h12, c4, c5, c6, h15, h16, e14, e13, e15, e36, e35, e37, e38⟩ := factsB k hk
  unfold Res owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩
  have r2 := read_tabQ arg2 f2 hf2
  have r3 := read_tabJ arg3 f3 hf3
  have r4 := read_rowsL arg4 f4
  have r4' := read_rowsS arg4 f4
  have r5 := read_rowsS arg5 f5
  have r6 := read_slab arg6 f6
  rw [hf4] at r4 r4'
  rw [hf5] at r5
  rw [hf6] at r6
  unfold k0_t1_body
  sl_exec
  sl_step
  isplitl [H2]
  · iexists _; isplitr
    swap; · iexact H2
    ipureintro
    exact hf2
  isplitl [H3]
  · iexists _; isplitr
    swap; · iexact H3
    ipureintro
    exact hf3
  isplitl [H4]
  · iexists _; isplitr
    swap; · iexact H4
    ipureintro
    exact hf4
  isplitl [H5]
  · iexists _; isplitr
    swap; · iexact H5
    ipureintro
    exact hf5
  isplitl [H6]
  · iexists _; isplitr
    swap; · iexact H6
    ipureintro
    exact hf6
  isplitl [H7]
  · iexists _; isplitr
    swap; · iexact H7
    ipureintro
    rw [stepAt, if_neg hk, View.read_writes_cons_put _ _ _ _ _ e38, View.writes_nil, hf7]
    unfold tripB.sl.v177_1 tripB.sl.H9_3 tripB.sl.H9_2
    rw [readCov_halves _ s.acc]
    refine congrArg (fun z => VecWindow.put (s := S4096x128) s.o ![1024 * qi k, 0] S1024x128.size (k0_pay57 z)) ?_
    unfold accB loS hiS loM hiM loA hiA
    sl_unfold_run_names
    simp (config := {proj := false}) only [readCov_same, readAt_window, hf8, hf9, hf10, hf12, e14, e13, e15, e37]
    refine congr (congrArg (fun a b => VecWindow.put (s := S144x1024) (VecWindow.put (s := S144x1024) s.acc ![0, 0] S144x512.size a) ![0, 512] S144x512.size b) ?_) ?_
    · delta k0_pay15
      rfl
    · delta k0_pay17 k0_pay18
      rfl
  isplitl [H8]
  · iexists _; isplitr
    swap; · iexact H8
    ipureintro
    rw [stepAt, if_neg hk]
    refine (View.read_writes_full _ _ _ _ _).trans ?_
    sl_unfold_run_names
    rfl
  isplitl [H9]
  · iexists _; isplitr
    swap; · iexact H9
    ipureintro
    rw [stepAt, if_neg hk]
    refine (View.read_writes_full _ _ _ _ _).trans ?_
    sl_unfold_run_names
    rfl
  isplitl [H10]
  · iexists _; isplitr
    swap; · iexact H10
    ipureintro
    rw [stepAt, if_neg hk]
    refine (View.read_writes_full _ _ _ _ _).trans ?_
    sl_unfold_run_names
    simp only [e35, e36]
    unfold stepB
    dsimp (config := {proj := false}) only
  isplitl [H11]
  · iexists _; isplitr
    swap; · iexact H11
    ipureintro
    sl_unfold_run_names; rw [stepAt, if_neg hk]; simp only [stepB, accB, loS, hiS, loM, hiM, loA, hiA, View.read_writes_full, View.readAt_full, View.readCov_full, View.writes_nil, hf7, hf8, hf9, hf10, hf11, hf12, hf13, e14, e13, e15, e36, e35, e37]
    rw [View.read_writes_cons_put _ _ _ _ _ rfl, View.writes_nil, hf11]
  isplitl [H12]
  · iexists _; isplitr
    swap; · iexact H12
    ipureintro
    rw [stepAt, if_neg hk]
    refine (View.read_writes_full _ _ _ _ _).trans ?_
    sl_unfold_run_names
    simp only [e35, e36]
    unfold stepB
    dsimp (config := {proj := false}) only
  iexists _; isplitr
  swap; · iexact H13
  ipureintro
  sl_unfold_run_names; rw [stepAt, if_neg hk]; simp only [stepB, accB, loS, hiS, loM, hiM, loA, hiA, View.read_writes_full, View.readAt_full, View.readCov_full, View.writes_nil, hf7, hf8, hf9, hf10, hf11, hf12, hf13, e14, e13, e15, e36, e35, e37]
  rw [View.read_writes_cons_put _ _ _ _ _ rfl, View.writes_nil, hf13]

end Cert.Mla.KernelIdeal

end
-- ==== Proof.MlaKernel.lean ====
/-
  The attention kernel's body at one grid point: the first scores, then the loop of pair trips by an invariant that holds
  each buffer at the trip count's iterate of the trip function.
-/
module

public import proofs.«01_k».proof.Proof.MlaTripA
public import proofs.«01_k».proof.Proof.MlaTripB

@[expose] public section

set_option maxRecDepth 16384

noncomputable section

namespace Cert.Mla.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The state before trip `k`. -/
def stateAt (x0 x1 : Vec F S4096x256 .bf16) (x2 : Vec F S8x144x512 .bf16) (v50 : IVec S512x512 1) (s : St F) : ℕ → St F
  | 0 => s
  | k + 1 => stepAt x0 x1 x2 v50 k (stateAt x0 x1 x2 v50 s k)

/-- One trip takes the state before it to the state after it. -/
theorem trip_run (c : Dev nD) (i : grid0.Coords) (arg2 : Memref sig .tc .smem S20 .i32) (harg2 : arg2.IsWhole) (arg3 : Memref sig .tc .smem S20 .i32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S8x144x512 .bf16) (harg6 : arg6.IsWhole) (arg7 : Memref sig .tc .vmem S4096x128 .bf16) (harg7 : arg7.IsWhole) (arg8 : Memref sig .tc .vmem S1x1024 .f32) (harg8 : arg8.IsWhole) (arg9 : Memref sig .tc .vmem S144x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (v50 : IVec S512x512 1)
    (x0 x1 : Vec F S4096x256 .bf16) (x2 : Vec F S8x144x512 .bf16) (s : St F) (k : Fin k0_t1_loop.trips) (u : Unit) :
    Res c arg2 arg3 arg4 arg5 arg6 arg7 arg8 arg9 arg10 arg11 arg12 arg13 x0 x1 x2 (stateAt x0 x1 x2 v50 s k)
      ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 v50 k u) (fun _ => Res c arg2 arg3 arg4 arg5 arg6 arg7 arg8 arg9 arg10 arg11 arg12 arg13 x0 x1 x2 (stateAt x0 x1 x2 v50 s (k.val + 1))) := by
  by_cases hk : j0 k < 2 * qi k
  · exact tripA c i arg2 harg2 arg3 harg3 arg4 harg4 arg5 harg5 arg6 harg6 arg7 harg7 arg8 harg8 arg9 harg9 arg10 harg10 arg11 harg11 arg12 harg12 arg13 harg13 v50 x0 x1 x2 _ k hk
  · exact tripB c i arg2 harg2 arg3 harg3 arg4 harg4 arg5 harg5 arg6 harg6 arg7 harg7 arg8 harg8 arg9 harg9 arg10 harg10 arg11 harg11 arg12 harg12 arg13 harg13 v50 x0 x1 x2 _ k hk

/-- The causal mask of a diagonal block. -/
def maskV : IVec S512x512 1 := k0_pay73 k0_pay68 k0_pay69 k0_pay70 k0_pay71 k0_pay72

/-- The state before the first trip: the first tile's scores against the first key block, nothing accumulated. -/
def start (x0 x1 : Vec F S4096x256 .bf16) (s : St F) : St F :=
  { s with
    m := k0_pay74 (F := F)
    acc := k0_pay75 (F := F)
    sa := k0_pay77 (rowsS x1 0) (rowsL x0 0)
    ma := k0_pay1 (k0_pay78 (rowsS x1 0) (rowsL x0 0)) }

set_option maxHeartbeats 1000000 in
/-- The body on whole staging memrefs. -/
theorem sound_kernel (c : Dev nD) (i : grid0.Coords) (arg2 : Memref sig .tc .smem S20 .i32) (harg2 : arg2.IsWhole) (arg3 : Memref sig .tc .smem S20 .i32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S8x144x512 .bf16) (harg6 : arg6.IsWhole) (arg7 : Memref sig .tc .vmem S4096x128 .bf16) (harg7 : arg7.IsWhole) (arg8 : Memref sig .tc .vmem S1x1024 .f32) (harg8 : arg8.IsWhole) (arg9 : Memref sig .tc .vmem S144x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole)
    (x0 x1 : Vec F S4096x256 .bf16) (x2 : Vec F S8x144x512 .bf16) (s : St F) (K : PUnit → sProp 𝕄) :
    iprop(Res c arg2 arg3 arg4 arg5 arg6 arg7 arg8 arg9 arg10 arg11 arg12 arg13 x0 x1 x2 s ∗ (Res c arg2 arg3 arg4 arg5 arg6 arg7 arg8 arg9 arg10 arg11 arg12 arg13 x0 x1 x2 (stateAt x0 x1 x2 maskV (start x0 x1 s) k0_t1_loop.trips) -∗ K ⟨⟩))
      ⊢ wp frame (wpE (defs₀ (F := F)) Variants.none (c : Thread nD τ) none) Set.univ (cc0_mla_attn (F := F) i arg2 harg2 arg3 harg3 arg4 harg4 arg5 harg5 arg6 harg6 arg7 harg7 arg8 harg8 arg9 harg9 arg10 harg10 arg11 harg11 arg12 harg12 arg13 harg13) K := by
  simp only [cc0_mla_attn_eq_skeleton]; unfold cc0_mla_attn_skel
  simp only [k0_part12_eq_skeleton, k0_part13_eq_skeleton]
  have h1 : k0_chk1 (tabQ (k0_off1 0)) := by decide +kernel
  have h2 : k0_chk2 (tabJ (k0_off2 0)) := by decide +kernel
  have e4 : k0_off4 (tabQ (k0_off1 0)) 0 = 0 := by decide +kernel
  have e3 : k0_off3 (tabJ (k0_off2 0)) 0 = 0 := by decide +kernel
  generalize hR : Res c arg2 arg3 arg4 arg5 arg6 arg7 arg8 arg9 arg10 arg11 arg12 arg13 x0 x1 x2 (stateAt x0 x1 x2 maskV (start x0 x1 s) k0_t1_loop.trips) = R
  unfold Res owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  have r2 := read_tabQ arg2 f2 hf2
  have r3 := read_tabJ arg3 f3 hf3
  have r4 := read_rowsL arg4 f4
  have r4' := read_rowsS arg4 f4
  have r5 := read_rowsS arg5 f5
  rw [hf4] at r4 r4'
  rw [hf5] at r5
  sl_exec
  have hstep := trip_run (F := F) c i arg2 harg2 arg3 harg3 arg4 harg4 arg5 harg5 arg6 harg6 arg7 harg7 arg8 harg8 arg9 harg9 arg10 harg10 arg11 harg11 arg12 harg12 arg13 harg13 maskV x0 x1 x2 (start x0 x1 s)
  iapply (Scf.wp_for_bind frame (wpE (defs₀ (F := F)) Variants.none (c : Thread nD τ) none) Set.univ k0_t1_loop.lb k0_t1_loop.ub k0_t1_loop.st k0_t1_ok () _ (fun k _ => Res c arg2 arg3 arg4 arg5 arg6 arg7 arg8 arg9 arg10 arg11 arg12 arg13 x0 x1 x2 (stateAt x0 x1 x2 maskV (start x0 x1 s) k)) hstep) $$ [H2 H3 H4 H5 H6 H7 H8 H9 H10 H11 H12 H13]
  · unfold Res owns stateAt start
    isplitl [H2]
    · iexists _; isplitr
      swap; · iexact H2
      ipureintro
      exact hf2
    isplitl [H3]
    · iexists _; isplitr
      swap; · iexact H3
      ipureintro
      exact hf3
    isplitl [H4]
    · iexists _; isplitr
      swap; · iexact H4
      ipureintro
      exact hf4
    isplitl [H5]
    · iexists _; isplitr
      swap; · iexact H5
      ipureintro
      exact hf5
    isplitl [H6]
    · iexists _; isplitr
      swap; · iexact H6
      ipureintro
      exact hf6
    isplitl [H7]
    · iexists _; isplitr
      swap; · iexact H7
      ipureintro
      exact hf7
    isplitl [H8]
    · iexists _; isplitr
      swap; · iexact H8
      ipureintro
      refine (View.read_writes_full _ _ _ _ _).trans ?_
      sl_unfold_run_names
      simp only [e3, e4]
      try rfl
    isplitl [H9]
    · iexists _; isplitr
      swap; · iexact H9
      ipureintro
      refine (View.read_writes_full _ _ _ _ _).trans ?_
      sl_unfold_run_names
      simp only [e3, e4]
      try rfl
    isplitl [H10]
    · iexists _; isplitr
      swap; · iexact H10
      ipureintro
      refine (View.read_writes_full _ _ _ _ _).trans ?_
      sl_unfold_run_names
      simp only [e3, e4]
      try rfl
    isplitl [H11]
    · iexists _; isplitr
      swap; · iexact H11
      ipureintro
      exact hf11
    isplitl [H12]
    · iexists _; isplitr
      swap; · iexact H12
      ipureintro
      refine (View.read_writes_full _ _ _ _ _).trans ?_
      sl_unfold_run_names
      simp only [e3, e4]
      try rfl
    iexists _; isplitr
    swap; · iexact H13
    ipureintro
    exact hf13
  iintro %u Hres
  sl_step
  iapply Hk
  rw [← hR]
  iexact Hres

end Cert.Mla.KernelIdeal

end
-- ==== Proof.MlaOut.lean ====
/-
  What the attention kernel's body leaves in the result's staging buffer, as a function of the three staged inputs alone:
  each query tile's rows are stored on the tile's diagonal trip, from a state that depends on the inputs only.
-/
module

public import proofs.«01_k».proof.Proof.MlaKernel

@[expose] public section

set_option maxRecDepth 16384

noncomputable section

namespace Cert.Mla.KernelIdeal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI

variable {F : FTy → Type} [FloatOps F] [Named F]

/-- Two states with the same running maximum, accumulator and first score block. -/
def Agree (s s' : St F) : Prop := s.m = s'.m ∧ s.acc = s'.acc ∧ s.sa = s'.sa ∧ s.ma = s'.ma

/-- A trip keeps agreement: it reads nothing else. -/
theorem agree_step (x0 x1 : Vec F S4096x256 .bf16) (x2 : Vec F S8x144x512 .bf16) (k : ℕ) {s s' : St F} (h : Agree s s') :
    Agree (stepAt x0 x1 x2 maskV k s) (stepAt x0 x1 x2 maskV k s') := by
  obtain ⟨h1, h2, h3, h4⟩ := h
  unfold stepAt
  by_cases hk : j0 k < 2 * qi k
  · rw [if_pos hk, if_pos hk]
    unfold stepA Agree
    dsimp (config := {proj := false}) only
    rw [h1, h2, h3, h4]
    exact ⟨rfl, rfl, rfl, rfl⟩
  · rw [if_neg hk, if_neg hk]
    exact ⟨rfl, rfl, rfl, rfl⟩

theorem agree_stateAt (x0 x1 : Vec F S4096x256 .bf16) (x2 : Vec F S8x144x512 .bf16) {s s' : St F} (h : Agree s s') :
    ∀ k, Agree (stateAt x0 x1 x2 maskV s k) (stateAt x0 x1 x2 maskV s' k)
  | 0 => h
  | k + 1 => agree_step x0 x1 x2 k (agree_stateAt x0 x1 x2 h k)

theorem agree_start (x0 x1 : Vec F S4096x256 .bf16) (s s' : St F) : Agree (start x0 x1 s) (start x0 x1 s') := ⟨rfl, rfl, rfl, rfl⟩

/-- Some state. -/
def someState (x0 x1 : Vec F S4096x256 .bf16) : St F where
  m := k0_pay74 (F := F)
  acc := k0_pay75 (F := F)
  sa := k0_pay77 (rowsS x1 0) (rowsL x0 0)
  sb := k0_pay77 (rowsS x1 0) (rowsL x0 0)
  ma := k0_pay74 (F := F)
  mb := k0_pay74 (F := F)
  o := constant S4096x128 .bf16 0

/-- The diagonal trip of query tile `T`. -/
def diag (T : ℕ) : ℕ := if T = 0 then 0 else if T = 1 then 2 else if T = 2 then 5 else 9
/-- Query tiles finished before trip `k`. -/
def done (k : ℕ) : ℕ := if k = 0 then 0 else if k ≤ 2 then 1 else if k ≤ 5 then 2 else if k ≤ 9 then 3 else 4

/-- The state the diagonal trip of query tile `T` starts from. -/
def tileState (x0 x1 : Vec F S4096x256 .bf16) (x2 : Vec F S8x144x512 .bf16) (T : ℕ) : St F :=
  stateAt x0 x1 x2 maskV (start x0 x1 (someState x0 x1)) (diag T)

/-- Query tile `T`'s rows of the result. -/
def tileV (x0 x1 : Vec F S4096x256 .bf16) (x2 : Vec F S8x144x512 .bf16) (T : ℕ) : Vec F S1024x128 .bf16 :=
  k0_pay57 (accB (rowsS x0 (1024 * T + 512)) (rowsS x1 (512 * (2 * T + 1))) (slab x2 (2 * T)) (slab x2 (2 * T + 1)) maskV (tileState x0 x1 x2 T))

/-- The block of the result. -/
def outV (x0 x1 : Vec F S4096x256 .bf16) (x2 : Vec F S8x144x512 .bf16) : Vec F S4096x128 .bf16 :=
  fun y => tileV x0 x1 x2 ((y 0).val / 1024) (ix2 ⟨(y 0).val % 1024, Nat.mod_lt _ (by decide)⟩ ⟨(y 1).val, (y 1).isLt⟩)

theorem trip_low : ∀ k : Fin 10, j0 k < 2 * qi k → done (k.val + 1) = done k := by decide +kernel
theorem trip_diag : ∀ k : Fin 10, ¬ j0 k < 2 * qi k → done (k.val + 1) = done k + 1 ∧ qi k = done k ∧ j0 k = 2 * done k ∧ diag (done k) = k := by decide +kernel

theorem accB_agree (qh k : Vec F S512x256 .bf16) (v v' : Vec F S1x144x512 .bf16) {s s' : St F} (h : Agree s s') :
    accB qh k v v' maskV s = accB qh k v v' maskV s' := by
  obtain ⟨h1, h2, h3, h4⟩ := h
  unfold accB
  rw [h1, h2, h3, h4]

/-- A row of a stored band of 1024 rows. -/
theorem put_rows (x : Vec F S4096x128 .bf16) (n : ℕ) (w : Vec F S1024x128 .bf16) (y : S4096x128.Idx) (h : n ≤ (y 0).val) (h' : (y 0).val < n + 1024) :
    VecWindow.put (s := S4096x128) x ![n, 0] S1024x128.size w y = w (ix2 ⟨(y 0).val - n, by omega⟩ ⟨(y 1).val, (y 1).isLt⟩) := by
  have h1 : (y 1).val < 128 := (y 1).isLt
  unfold VecWindow.put
  rw [dif_pos (Fin.forall_fin_two.2 ⟨⟨h, h'⟩, ⟨Nat.zero_le _, by show (y 1).val < 0 + 128; omega⟩⟩)]
  congr 1
  funext a
  match a with
  | ⟨0, _⟩ => rfl
  | ⟨1, _⟩ => rfl

theorem stateAt_o (x0 x1 : Vec F S4096x256 .bf16) (x2 : Vec F S8x144x512 .bf16) (s : St F) :
    ∀ k, k ≤ 10 → ∀ y : S4096x128.Idx, (y 0).val < 1024 * done k → (stateAt x0 x1 x2 maskV (start x0 x1 s) k).o y = outV x0 x1 x2 y := by
  intro k
  induction k with
  | zero => intro _ y hy; exact absurd hy (by rw [show done 0 = 0 from rfl]; omega)
  | succ k ih =>
    intro hk y hy
    have ih := ih (by omega)
    show (stepAt x0 x1 x2 maskV k (stateAt x0 x1 x2 maskV (start x0 x1 s) k)).o y = _
    unfold stepAt
    by_cases hd : j0 k < 2 * qi k
    · rw [if_pos hd]
      have e := trip_low ⟨k, by omega⟩ hd
      dsimp only at e
      rw [e] at hy
      exact ih y hy
    · rw [if_neg hd]
      obtain ⟨e, eq, ej, ed⟩ := trip_diag ⟨k, by omega⟩ hd
      dsimp only at e eq ej ed
      rw [e] at hy
      show VecWindow.put (s := S4096x128) (stateAt x0 x1 x2 maskV (start x0 x1 s) k).o ![1024 * qi k, 0] S1024x128.size _ y = _
      have h1 : (y 1).val < 128 := (y 1).isLt
      by_cases hy' : (y 0).val < 1024 * done k
      · unfold VecWindow.put
        rw [dif_neg (fun h => by have := (h 0).1; change 1024 * qi k ≤ (y 0).val at this; omega)]
        exact ih y hy'
      · have hT : (y 0).val / 1024 = done k := by omega
        rw [put_rows _ _ _ y (by omega) (by omega)]
        unfold outV
        rw [hT]
        unfold tileV tileState
        rw [ed, accB_agree _ _ _ _ (agree_stateAt x0 x1 x2 (agree_start x0 x1 s (someState x0 x1)) k)]
        simp only [eq, ej]
        congr 1
        funext a
        apply Fin.ext
        match a with
        | ⟨0, _⟩ => show (y 0).val - 1024 * done k = (y 0).val % 1024; omega
        | ⟨1, _⟩ => rfl

/-- Whatever the written buffers held, the body leaves `outV` of the inputs in the result's. -/
theorem final_o (x0 x1 : Vec F S4096x256 .bf16) (x2 : Vec F S8x144x512 .bf16) (s : St F) :
    (stateAt x0 x1 x2 maskV (start x0 x1 s) k0_t1_loop.trips).o = outV x0 x1 x2 := by
  have e : k0_t1_loop.trips = 10 := by decide +kernel
  rw [e]
  funext y
  exact stateAt_o x0 x1 x2 s 10 (le_refl _) y (by have : (y 0).val < 4096 := (y 0).isLt; rw [show done 10 = 4 from rfl]; omega)

end Cert.Mla.KernelIdeal

end
-- ==== Proof.MlaFrame.lean ====
/-
  The attention kernel's launch: the host operations that pack the operands, then the pipeline over the 64 (batch, head)
  points, each point's body leaving the block of the result that its three staged inputs determine. From it the frame:
  the run ends, the arguments keep their contents, and every semaphore is back at zero.
-/
module

public import proofs.«01_k».proof.Proof.MlaOut
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.Mla.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers' contents when the region is entered. -/
abbrev V (c : Dev nD) (b : Ref sig .tc) : Buf (Elt F) ((c : Thread nD τ).loc b) := StableHlo.after hostOps0 (fun b => m (c, b)) b

theorem fresh0 : (hostOps0 : List (HloOp τ sig (Elt F))).Forall fun op => op.fresh = ∅ := by
  simp only [List.Forall]; repeat' constructor

set_option maxHeartbeats 800000 in
/-- The program up to the region. -/
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub fresh0 main_chain

/-- What each host operation writes. -/
abbrev written : List (Ref sig .tc) := [main_c, main_c_0, main_cst, main_v0, main_cst_1, main_v1, main_v2, main_cst_2, main_v3, main_v4, main_v5, main_cst_3, main_v6, main_v7, main_v8, main_v9, main_v10, main_v11, main_v12, main_v13, main_v14, main_v15, main_v16, main_cst_4, main_v17, main_v18, main_v19, main_v20, main_v21, main_v22, main_v23, main_v24, main_v25, main_cst_5, main_v26, main_v27, main_v28, main_v29]
theorem writes0 : (hostOps0 : List (HloOp τ sig (Elt F))).Forall fun op => op.writes ⊆ (written.map (Proc.devRef (τ := τ) .tc)).toFinset :=
  StableHlo.forall_writes_sub_of_map rfl

theorem V_arg (c : Dev nD) (b : Ref sig .tc) (h : b ∉ written) : V m c b = m ((c : Thread nD τ).loc b) :=
  StableHlo.after_of_writes_sub (r := b) _ _ writes0 h

/-- The two tables, in place when the region is entered. -/
def tbl : pre0.Contents (Elt F) := fun | ⟨0, _⟩ => tblQ (F := F) | ⟨1, _⟩ => tblJ (F := F) | ⟨_ + 2, h⟩ => absurd h (Nat.not_lt.2 (Nat.le_add_left _ _))

theorem V_tbl0 (c : Dev nD) : V m c main_c = tblQ (F := F) := by
  unfold_abbrev_sides
  after_results
  rfl
theorem V_tbl1 (c : Dev nD) : V m c main_c_0 = tblJ (F := F) := by
  unfold_abbrev_sides
  after_results
  rfl

theorem V_pre (c : Dev nD) (k : Fin 2) : V m c (pre0.ref k) = tbl (F := F) k :=
  match k with
  | ⟨0, _⟩ => V_tbl0 m c
  | ⟨1, _⟩ => V_tbl1 m c

/-- The tables are admissible: no window reads them. -/
theorem tbl_ok : ok0 (F := F) tbl := by unfold ok0; trivial
abbrev adm : (pcfg0 (F := F)).Adm := ⟨tbl (F := F), tbl_ok (F := F)⟩
abbrev cfgM : Pipeline.Cfg sig Λ₀ := cfg0 (F := F) adm

theorem tables_eq (c : Dev nD) : (Pipeline.ΦT pre0 (tbl (F := F)) c : sProp 𝕄)
    = iprop((((c : Thread nD τ).loc main_c) ↦{fullShare.right} (tblQ (F := F))) ∗ (((c : Thread nD τ).loc main_c_0) ↦{fullShare.right} (tblJ (F := F)))) := by
  unfold Pipeline.ΦT Pipeline.prefHeld
  rw [show (Finset.univ : Finset (Fin 2)) = insert (0 : Fin 2) {(1 : Fin 2)} from by decide, bigSep_insert (by decide), bigSep_singleton]
  rfl

abbrev st0 (t : Fin (cfgM (F := F)).N) := ((cfgM (F := F)).win 0).stage ((cfgM (F := F)).slots t 0)
abbrev st1 (t : Fin (cfgM (F := F)).N) := ((cfgM (F := F)).win 1).stage ((cfgM (F := F)).slots t 1)
abbrev st2 (t : Fin (cfgM (F := F)).N) := ((cfgM (F := F)).win 2).stage ((cfgM (F := F)).slots t 2)
abbrev st3 (t : Fin (cfgM (F := F)).N) := ((cfgM (F := F)).win 3).stage ((cfgM (F := F)).slots t 3)

/-- Window `w`'s block at point `t`. -/
def iblk (c : Dev nD) (w : Fin (cfgM (F := F)).W) (t : Fin (cfgM (F := F)).N) : (((cfgM (F := F)).win w).xblock ((cfgM (F := F)).grid.coords t)).Idx → Elt F ((cfgM (F := F)).win w).elt :=
  (((cfgM (F := F)).win w).blk t).view.read (Elt F) (V m c (Pipeline.arrRef spec0 w))

/-- The proof data: the arrays as the region finds them, each input's buffer at its block, the result's at what the body
    leaves of the three. -/
def dats (_ : Fin 1) (c : Dev nD) : Dat τ (Elt F) Unit ℕ (UR sig nD τ) ℕ (cfgM (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outV (F := F) (iblk m c 0 t) (iblk m c 1 t) (iblk m c 2 t)
  Φ _ := iprop(Pipeline.ΦA spec0 c ∗ Pipeline.ΦT pre0 (tbl (F := F)) c)
  q _ := fullShare
  owed _ := 0

theorem A_eq (c : Dev nD) (w : Fin (cfgM (F := F)).W) : (dats m 0 c).A w = V m c (Pipeline.arrRef spec0 w) := by
  dsimp only [dats]

theorem after_0 (c : Dev nD) (t : Fin (cfgM (F := F)).N) : (dats m 0 c).after 0 t = iblk m c 0 t := by dsimp only [dats]; try rfl
theorem after_1 (c : Dev nD) (t : Fin (cfgM (F := F)).N) : (dats m 0 c).after 1 t = iblk m c 1 t := by dsimp only [dats]; try rfl
theorem after_2 (c : Dev nD) (t : Fin (cfgM (F := F)).N) : (dats m 0 c).after 2 t = iblk m c 2 t := by dsimp only [dats]; try rfl
theorem after_3 (c : Dev nD) (t : Fin (cfgM (F := F)).N) :
    (dats m 0 c).after 3 t = outV (F := F) (iblk m c 0 t) (iblk m c 1 t) (iblk m c 2 t) := by dsimp only [dats]; try rfl

theorem before_0 (c : Dev nD) (t : Fin (cfgM (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body obligation -/

/-- The body at point `t`. -/
abbrev bodyAt (t : Fin (cfgM (F := F)).N) : Prog (TpuEff nD τ sig (Elt F) Λ₀ .tc) PUnit :=
  cc0_mla_attn (F := F) (grid0.coords t) (Memref.whole main_c) (Memref.isWhole_whole _) (Memref.whole main_c_0) (Memref.isWhole_whole _)
    (st0 t) (hstage0_0 (((cfgM (F := F)).slots t 0).cast nbuf0_0)) (st1 t) (hstage0_1 (((cfgM (F := F)).slots t 1).cast nbuf0_1))
    (st2 t) (hstage0_2 (((cfgM (F := F)).slots t 2).cast nbuf0_2)) (st3 t) (hstage0_3 (((cfgM (F := F)).slots t 3).cast nbuf0_3))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)

def bodyPre (c : Dev nD) (t : Fin (cfgM (F := F)).N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d)))

def bodyPost (c : Dev nD) (t : Fin (cfgM (F := F)).N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t))

set_option maxHeartbeats 1000000 in
/-- The body at any point. -/
theorem sound_body (c : Dev nD) (t : Fin (cfgM (F := F)).N) :
    bodyPre m c t ⊢ wp frame (wpE (defs₀ (F := F)) Variants.none c none) Set.univ (bodyAt t) (fun _ => bodyPost m c t) := by
  unfold bodyPre bodyPost
  simp only [before_0, before_1, before_2]
  rw [show (dats m 0 c).Φ t.succ = iprop(Pipeline.ΦA spec0 c ∗ Pipeline.ΦT pre0 (tbl (F := F)) c) from rfl,
    show (dats m 0 c).Φ t.castSucc = iprop(Pipeline.ΦA spec0 c ∗ Pipeline.ΦT pre0 (tbl (F := F)) c) from rfl,
    show (dats m 0 c).owesAt () t.succ = (dats m 0 c).owesAt () t.castSucc from rfl,
    after_0, after_1, after_2, after_3, tables_eq]
  unfold Pipeline.ΦA
  rw [scopedRest0_eq]
  have key := fun K s => sound_kernel (F := F) c (grid0.coords t) (Memref.whole main_c) (Memref.isWhole_whole _) (Memref.whole main_c_0) (Memref.isWhole_whole _)
    (st0 t) (hstage0_0 (((cfgM (F := F)).slots t 0).cast nbuf0_0)) (st1 t) (hstage0_1 (((cfgM (F := F)).slots t 1).cast nbuf0_1))
    (st2 t) (hstage0_2 (((cfgM (F := F)).slots t 2).cast nbuf0_2)) (st3 t) (hstage0_3 (((cfgM (F := F)).slots t 3).cast nbuf0_3))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (iblk m c 0 t) (iblk m c 1 t) (iblk m c 2 t) s K
  unfold Res at key
  simp only [owns_whole, final_o] at key
  iintro ⟨⟨⟨⟨⟨%f0, S0⟩, ⟨%f1, S1⟩, ⟨%f2, S2⟩, ⟨%f3, S3⟩, ⟨%f4, S4⟩, ⟨%f5, S5⟩⟩, Hp⟩, ⟨T0, T1⟩⟩, Ho, ⟨%d0, H0⟩, ⟨%d1, H1⟩, ⟨%d2, H2⟩, ⟨%d3, H3⟩⟩
  iapply (key _ (St.mk (F := F) f0 f1 f2 f3 f4 f5 ((dats m 0 c).before 3 t d3)))
  isplitl [S0 S1 S2 S3 S4 S5 T0 T1 H0 H1 H2 H3]
  · isplitl [T0]; · iexact T0
    isplitl [T1]; · iexact T1
    isplitl [H0]; · iexact H0
    isplitl [H1]; · iexact H1
    isplitl [H2]; · iexact H2
    isplitl [H3]; · iexact H3
    isplitl [S0]; · iexact S0
    isplitl [S1]; · iexact S1
    isplitl [S2]; · iexact S2
    isplitl [S3]; · iexact S3
    isplitl [S4]; · iexact S4
    iexact S5
  iintro ⟨T0, T1, H0, H1, H2, H3, S0, S1, S2, S3, S4, S5⟩
  isplitl [S0 S1 S2 S3 S4 S5 T0 T1 Hp]
  · isplitl [S0 S1 S2 S3 S4 S5 Hp]
    · isplitl [S0 S1 S2 S3 S4 S5]
      · isplitl [S0]; · iexists _; iexact S0
        isplitl [S1]; · iexists _; iexact S1
        isplitl [S2]; · iexists _; iexact S2
        isplitl [S3]; · iexists _; iexact S3
        isplitl [S4]; · iexists _; iexact S4
        iexists _; iexact S5
      iexact Hp
    isplitl [T0]; · iexact T0
    iexact T1
  isplitl [Ho]; · iexact Ho
  isplitl [H0]; · iexact H0
  isplitl [H1]; · iexact H1
  isplitl [H2]; · iexact H2
  have e := final_o (F := F) (iblk m c 0 t) (iblk m c 1 t) (iblk m c 2 t) (St.mk (F := F) f0 f1 f2 f3 f4 f5 ((dats m 0 c).before 3 t d3))
  iapply (Idealize.SL.BI.BIBase.Entails.of_eq (congrArg (fun v => (owns (c : Thread nD τ) (st3 t) fullShare v : sProp 𝕄)) e))
  iexact H3

theorem defs₀_row (t : Fin (cfgM (F := F)).N) :
    defs₀ (F := F) .tc (cfgM (F := F)).body ((cfgM (F := F)).bodyArgs t ((cfgM (F := F)).slots t)) = bodyAt t := by
  unfold defs₀; rw [Defs.onTc_tc]; rfl

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: the arrays end at what the proof data compute, everything else as the region found it, every semaphore at zero. -/
theorem run_main : θ_run defs (onTc (τ := τ) (main (F := F))) (s₀ m ρ)
    (fun r => Pipeline.FramePost (Pipeline.pin (pcfgs (F := F)) (fun _ => adm)) (dats m) 0 (V m) r ∧ r.2.sem = fun _ => 0) :=
  Pipeline.θ_run_frameP (Q' := _) pcfgs (fun _ => adm) (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hpf := V_pre m) (hΦ := fun _ _ => rfl)

/-- The frame: the run ends, the arguments keep their contents and the semaphores are at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (show main_arg0 ∈ Pipeline.restRefs sig spec0 by decide)).trans (V_arg m c main_arg0 (by decide)),
     ((h.1 c).2 main_arg1 (show main_arg1 ∈ Pipeline.restRefs sig spec0 by decide)).trans (V_arg m c main_arg1 (by decide)),
     ((h.1 c).2 main_arg2 (show main_arg2 ∈ Pipeline.restRefs sig spec0 by decide)).trans (V_arg m c main_arg2 (by decide))⟩, h.2⟩) (run_main m ρ)

end Cert.Mla.KernelIdeal

end
-- ==== Proof.MlaPre.lean ====
/-
  What the precondition says of an entry: it is a real number.
-/
module

public import proofs.«01_k».proof.Defs
public import Idealize.ShloMosaic.Lib.Pointwise
public import Idealize.ShloMosaic.Lib.Tactic.CleanTypes

@[expose] public section

noncomputable section

namespace Cert.Mla.Pre

open Cert.Pre_finite_scores
open Idealize.ShloMosaic Idealize.ShloMosaic.TcCoe Idealize.ShloMosaic.Tactic

theorem facts : Cert.Pre_finite_scores.Facts := by constructor; decide

variable [Cert.Pre_finite_scores.Facts]

theorem fn_1 (q k : Vec Ideal S8x4096x8x192 .f32) (v : Vec Ideal S8x4096x8x128 .f32) (b : Fin 8) (t : Fin 4096) (h : Fin 8) (d : Fin 192) :
    (fn (F := Ideal) q k v).1 (ix4 b t h d) = BitVec.ofBool (decide (max (q (ix4 b t h d) : EReal) (-(q (ix4 b t h d) : EReal)) < Ideal.ofBits FTy.f32 2139095040#32)) := by
  unfold fn
  dsimp only
  pointwise
  try rfl

theorem fn_2 (q k : Vec Ideal S8x4096x8x192 .f32) (v : Vec Ideal S8x4096x8x128 .f32) (b : Fin 8) (t : Fin 4096) (h : Fin 8) (d : Fin 192) :
    (fn (F := Ideal) q k v).2 (ix4 b t h d) = BitVec.ofBool (decide (max (k (ix4 b t h d) : EReal) (-(k (ix4 b t h d) : EReal)) < Ideal.ofBits FTy.f32 2139095040#32)) := by
  unfold fn
  dsimp only
  pointwise
  try rfl

theorem top_word : Ideal.ofBits FTy.f32 2139095040#32 = ⊤ := by
  simp [Ideal.ofBits, Ideal.ieee, -EReal.coe_mul]

/-- A number whose size is less than infinity is real. -/
theorem real_of_lt (x : EReal) (h : BitVec.ofBool (decide (max x (-x) < Ideal.ofBits FTy.f32 2139095040#32)) = 1#1) : ((x.toReal : ℝ) : EReal) = x := by
  have hlt : max x (-x) < ⊤ := by
    by_contra hc
    rw [top_word, decide_eq_false hc] at h
    exact absurd h (by decide)
  refine EReal.coe_toReal ?_ ?_
  · rintro rfl; exact absurd hlt (by simp)
  · rintro rfl; exact absurd hlt (by simp)

end Cert.Mla.Pre

end
-- ==== Proof.MlaMath.lean ====
/-
  The arithmetic of an attention row over the extended reals: a running maximum and a running weighted sum, folded block
  by block and rescaled when the maximum grows, are the maximum and the weighted sum of all scores seen; powers of two of
  scores over log 2 are exponentials; a row divided after its weighted sum is the row of normalised weights summed.
-/
module

public import Idealize.ShloMosaic.PureOps.Ideal
public import Idealize.ShloMosaic.PureOps.Ideal.Laws

@[expose] public section

noncomputable section

namespace Cert.Mla

open Idealize.ShloMosaic

/-- A factor that is not negative and not infinite goes into a sum, whatever the terms. -/
theorem mul_sum {ι : Type*} (A : Finset ι) (f : ι → EReal) {c : EReal} (h0 : 0 ≤ c) (h1 : c ≠ ⊤) :
    c * ∑ i ∈ A, f i = ∑ i ∈ A, c * f i := by
  classical
  induction A using Finset.induction_on with
  | empty => simp
  | insert a A ha ih => rw [Finset.sum_insert ha, Finset.sum_insert ha, EReal.left_distrib_of_nonneg_of_ne_top h0 h1, ih]

theorem exp2_bot : Ideal.exp2 ⊥ = 0 := rfl
theorem exp2_coe (r : ℝ) : Ideal.exp2 (r : EReal) = ((2 : ℝ) ^ r : ℝ) := rfl
theorem exp_bot : Ideal.exp ⊥ = 0 := rfl
theorem exp_coe (r : ℝ) : Ideal.exp (r : EReal) = (Real.exp r : ℝ) := rfl

theorem exp2_nonneg (x : EReal) : 0 ≤ Ideal.exp2 x := by
  induction x with
  | bot => exact le_refl _
  | top => exact le_top
  | coe r => rw [exp2_coe]; exact EReal.coe_nonneg.2 (Real.rpow_nonneg (by norm_num) r)

/-- Rescaling a weight from one maximum to a larger one. -/
theorem exp2_rescale {s m m' : EReal} (hs : s ≤ m) (hm : m ≤ m') (ht : m' ≠ ⊤) :
    Ideal.exp2 (m - m') * Ideal.exp2 (s - m) = Ideal.exp2 (s - m') := by
  induction s with
  | bot => rw [EReal.bot_sub, EReal.bot_sub, exp2_bot, mul_zero]
  | top => exact absurd (top_le_iff.1 (hs.trans hm)) ht
  | coe s =>
    induction m with
    | bot => exact absurd (le_bot_iff.1 hs) (EReal.coe_ne_bot s)
    | top => exact absurd (top_le_iff.1 hm) ht
    | coe m =>
      induction m' with
      | bot => exact absurd (le_bot_iff.1 hm) (EReal.coe_ne_bot m)
      | top => exact absurd rfl ht
      | coe m' =>
        rw [← EReal.coe_sub, ← EReal.coe_sub, ← EReal.coe_sub, exp2_coe, exp2_coe, exp2_coe, ← EReal.coe_mul, ← Real.rpow_add (by norm_num)]
        congr 2
        ring

theorem exp2_ne_top {x y : EReal} (h : x ≤ y) (hy : y ≠ ⊤) : Ideal.exp2 (x - y) ≠ ⊤ := by
  induction x with
  | bot => rw [EReal.bot_sub, exp2_bot]; exact EReal.zero_ne_top
  | top => exact absurd (top_le_iff.1 h) hy
  | coe x =>
    induction y with
    | bot => exact absurd (le_bot_iff.1 h) (EReal.coe_ne_bot x)
    | top => exact absurd rfl hy
    | coe y => rw [← EReal.coe_sub, exp2_coe]; exact EReal.coe_ne_top _

/-- The greatest of the first `n` scores. -/
def rowMax (s : ℕ → EReal) (n : ℕ) : EReal := (Finset.range n).sup s
/-- The first `n` weighted values, against their greatest score. -/
def rowAcc (s w : ℕ → EReal) (n : ℕ) : EReal := ∑ j ∈ Finset.range n, w j * Ideal.exp2 (s j - rowMax s n)

theorem rowMax_zero (s : ℕ → EReal) : rowMax s 0 = ⊥ := rfl
theorem rowAcc_zero (s w : ℕ → EReal) : rowAcc s w 0 = 0 := rfl

theorem rowMax_ne_top {s : ℕ → EReal} (hs : ∀ j, s j ≠ ⊤) (n : ℕ) : rowMax s n ≠ ⊤ :=
  ((Finset.sup_lt_iff bot_lt_top).2 fun j _ => lt_top_iff_ne_top.2 (hs j)).ne

theorem le_rowMax (s : ℕ → EReal) {n j : ℕ} (h : j < n) : s j ≤ rowMax s n := Finset.le_sup (Finset.mem_range.2 h)

theorem rowMax_mono (s : ℕ → EReal) {n k : ℕ} (h : n ≤ k) : rowMax s n ≤ rowMax s k :=
  Finset.sup_mono (Finset.range_mono h)

/-- The maximum with one more block. -/
theorem rowMax_add (s : ℕ → EReal) (n l : ℕ) :
    max (rowMax s n) (Finset.univ.fold max ⊥ fun r : Fin l => s (n + r.val)) = rowMax s (n + l) := by
  show rowMax s n ⊔ Finset.univ.sup (fun r : Fin l => s (n + r.val)) = _
  apply le_antisymm
  · exact sup_le (rowMax_mono s (by omega)) (Finset.sup_le fun r _ => le_rowMax s (by have := r.isLt; omega))
  · refine Finset.sup_le fun j hj => ?_
    have hj := Finset.mem_range.1 hj
    by_cases h : j < n
    · exact le_sup_of_le_left (le_rowMax s h)
    · refine le_sup_of_le_right ?_
      have := Finset.le_sup (f := fun r : Fin l => s (n + r.val)) (Finset.mem_univ ⟨j - n, by omega⟩)
      dsimp only at this
      rwa [show n + (j - n) = j by omega] at this

/-- The weighted sum with one more block: the old sum rescaled to the new maximum, and the block's terms. -/
theorem rowAcc_add {s : ℕ → EReal} (hs : ∀ j, s j ≠ ⊤) (w : ℕ → EReal) (n l : ℕ) :
    Ideal.exp2 (rowMax s n - rowMax s (n + l)) * rowAcc s w n
      + ∑ r : Fin l, w (n + r.val) * Ideal.exp2 (s (n + r.val) - rowMax s (n + l)) = rowAcc s w (n + l) := by
  unfold rowAcc
  have hle := rowMax_mono s (Nat.le_add_right n l)
  rw [Finset.sum_range_add, mul_sum _ _ (exp2_nonneg _) (exp2_ne_top hle (rowMax_ne_top hs _))]
  congr 1
  · refine Finset.sum_congr rfl fun j hj => ?_
    rw [mul_left_comm, exp2_rescale (le_rowMax s (Finset.mem_range.1 hj)) hle (rowMax_ne_top hs _)]
  · rw [Finset.sum_range]

/-- Scores beyond the visible ones add nothing. -/
theorem rowMax_ext (s : ℕ → EReal) {n k : ℕ} (h : n ≤ k) (hv : ∀ j, n ≤ j → j < k → s j = ⊥) : rowMax s n = rowMax s k := by
  apply le_antisymm (rowMax_mono s h)
  refine Finset.sup_le fun j hj => ?_
  by_cases hj' : j < n
  · exact le_rowMax s hj'
  · rw [hv j (by omega) (Finset.mem_range.1 hj)]; exact bot_le

theorem rowAcc_ext (s w : ℕ → EReal) {n k : ℕ} (h : n ≤ k) (hv : ∀ j, n ≤ j → j < k → s j = ⊥) : rowAcc s w n = rowAcc s w k := by
  unfold rowAcc
  rw [rowMax_ext s h hv]
  refine Finset.sum_subset (Finset.range_mono h) fun j hj hj' => ?_
  rw [hv j (by simpa using hj') (Finset.mem_range.1 hj), EReal.bot_sub, exp2_bot, mul_zero]

/-! ## Against the row of normalised weights -/

/-- A power of two of a difference over log 2 is the exponential of the difference. -/
theorem exp2_over_log {x y : EReal} (h : x ≤ y) (hy : y ≠ ⊤) :
    Ideal.exp2 (x * ((1 / Real.log 2 : ℝ) : EReal) - y * ((1 / Real.log 2 : ℝ) : EReal)) = Ideal.exp (x - y) := by
  have hl : 0 < Real.log 2 := Real.log_pos (by norm_num)
  have hc : 0 < (1 / Real.log 2 : ℝ) := one_div_pos.2 hl
  induction x with
  | bot => rw [EReal.bot_mul_coe_of_pos hc, EReal.bot_sub, EReal.bot_sub]; rfl
  | top => exact absurd (top_le_iff.1 h) hy
  | coe x =>
    induction y with
    | bot => exact absurd (le_bot_iff.1 h) (EReal.coe_ne_bot x)
    | top => exact absurd rfl hy
    | coe y =>
      rw [← EReal.coe_mul, ← EReal.coe_mul, ← EReal.coe_sub, ← EReal.coe_sub, exp2_coe, exp_coe, Real.rpow_def_of_pos (by norm_num)]
      congr 2
      field_simp

/-- The greatest of scores over log 2. -/
theorem rowMax_over_log (S : ℕ → EReal) (n : ℕ) :
    rowMax (fun j => S j * ((1 / Real.log 2 : ℝ) : EReal)) n = rowMax S n * ((1 / Real.log 2 : ℝ) : EReal) := by
  have hl : 0 < Real.log 2 := Real.log_pos (by norm_num)
  have hc : 0 < (1 / Real.log 2 : ℝ) := one_div_pos.2 hl
  exact (Finset.comp_sup_eq_sup_comp_of_is_total (fun x : EReal => x * ((1 / Real.log 2 : ℝ) : EReal))
    (fun a b hab => mul_le_mul_of_nonneg_right hab (EReal.coe_nonneg.2 hc.le)) (EReal.bot_mul_coe_of_pos hc)).symm

/-- A row of the kernel's, divided after the sum, against the row of normalised weights: the scores are finite or hidden,
    one of them is finite, and the kernel's are the reference's over log 2. -/
theorem row_eq {S s w : ℕ → EReal} {n : ℕ} (hs : ∀ j, s j = S j * ((1 / Real.log 2 : ℝ) : EReal)) (hS : ∀ j, S j ≠ ⊤)
    {i : ℕ} (hi : i < n) (hSi : S i ≠ ⊥) :
    Ideal.div (rowAcc s w n) (rowAcc s (fun _ => 1) n)
      = ∑ j ∈ Finset.range n, w j * Ideal.div (Ideal.exp (S j - rowMax S n)) (0 + ∑ k ∈ Finset.range n, Ideal.exp (S k - rowMax S n)) := by
  obtain rfl : s = fun j => S j * ((1 / Real.log 2 : ℝ) : EReal) := funext hs
  have hM := rowMax_ne_top hS n
  have hMb : rowMax S n ≠ ⊥ := fun e => hSi (le_bot_iff.1 (e ▸ le_rowMax S hi))
  obtain ⟨i0, hi0, e0⟩ := Finset.exists_mem_eq_sup (Finset.range n) ⟨i, Finset.mem_range.2 hi⟩ S
  have hreal : ∀ j ∈ Finset.range n, ∃ r : ℝ, 0 ≤ r ∧ Ideal.exp (S j - rowMax S n) = (r : EReal) := by
    intro j hj
    have hle := le_rowMax S (Finset.mem_range.1 hj)
    revert hle hM hMb
    generalize rowMax S n = M
    generalize S j = x
    intro hM hMb hle
    induction M with
    | bot => exact absurd rfl hMb
    | top => exact absurd rfl hM
    | coe M =>
      induction x with
      | bot => exact ⟨0, le_refl _, by rw [EReal.bot_sub]; rfl⟩
      | top => exact absurd (top_le_iff.1 hle) hM
      | coe x => exact ⟨_, (Real.exp_pos _).le, by rw [← EReal.coe_sub, exp_coe]⟩
  have h0 : Ideal.exp (S i0 - rowMax S n) = ((1 : ℝ) : EReal) := by
    have : S i0 = rowMax S n := e0.symm
    rw [this]
    revert hM hMb
    generalize rowMax S n = M
    intro hM hMb
    induction M with
    | bot => exact absurd rfl hMb
    | top => exact absurd rfl hM
    | coe M => rw [← EReal.coe_sub, sub_self, exp_coe, Real.exp_zero]
  choose! e he0 he using hreal
  have hsum : ∑ k ∈ Finset.range n, Ideal.exp (S k - rowMax S n) = ((∑ k ∈ Finset.range n, e k : ℝ) : EReal) := by
    rw [Finset.sum_congr rfl he]
    induction (Finset.range n) using Finset.induction_on with
    | empty => simp
    | insert a A ha ih => rw [Finset.sum_insert ha, Finset.sum_insert ha, EReal.coe_add, ih]
  have hpos : 0 < ∑ k ∈ Finset.range n, e k := by
    have h1 : e i0 = 1 := EReal.coe_injective ((he i0 hi0).symm.trans h0)
    exact lt_of_lt_of_le (by rw [h1]; norm_num) (Finset.single_le_sum (f := e) (fun j hj => he0 j hj) hi0)
  have hne : ((∑ k ∈ Finset.range n, e k : ℝ) : EReal) ≠ 0 := by
    rw [← EReal.coe_zero]; exact fun h => hpos.ne' (EReal.coe_injective h)
  have hacc : ∀ w : ℕ → EReal, rowAcc (fun j => S j * ((1 / Real.log 2 : ℝ) : EReal)) w n = ∑ j ∈ Finset.range n, w j * Ideal.exp (S j - rowMax S n) := by
    intro w
    unfold rowAcc
    rw [rowMax_over_log]
    refine Finset.sum_congr rfl fun j hj => ?_
    rw [exp2_over_log (le_rowMax S (Finset.mem_range.1 hj)) hM]
  rw [hacc, hacc, zero_add]
  simp only [one_mul]
  rw [hsum]
  unfold Ideal.div
  simp only [if_neg hne]
  rw [← EReal.coe_inv, mul_comm, mul_sum _ _ (EReal.coe_nonneg.2 (inv_nonneg.2 hpos.le)) (EReal.coe_ne_top _)]
  refine Finset.sum_congr rfl fun j _ => ?_
  rw [mul_comm, mul_assoc]

end Cert.Mla

end
-- ==== Proof.MlaSpec.lean ====
/-
  The attention in plain words: the masked scores of one query row over the key rows, and the weighted
  mean of the values. Both programs are read as these.
-/
module

public import proofs.«01_k».proof.Proof.MlaMath
public import Idealize.ShloMosaic.Lib.Pointwise

@[expose] public section

set_option maxRecDepth 16384

noncomputable section

namespace Cert.Mla

open Idealize.ShloMosaic

/-- The score of query row `t` against key row `j` in batch `b` and head `h`: the inner product over the
    root of its length. -/
def qk (q k : Fin 8 → Fin 4096 → Fin 8 → Fin 192 → EReal) (b : Fin 8) (t : Fin 4096) (h : Fin 8) (j : Fin 4096) : EReal :=
  Ideal.div (∑ x : Fin 192, q b t h x * k b j h x) (Ideal.sqrt (Ideal.ofBits FTy.f32 1128267776#32))

/-- The score as masked: a key row counts if its 64-row chunk is not after the query's. -/
def msc (q k : Fin 8 → Fin 4096 → Fin 8 → Fin 192 → EReal) (b : Fin 8) (t : Fin 4096) (h : Fin 8) (j : ℕ) : EReal :=
  if j / 64 ≤ t.val / 64 then qk q k b t h ⟨j % 4096, Nat.mod_lt _ (by norm_num)⟩ else ⊥

/-- One entry of the attention's output. -/
def att (q k : Fin 8 → Fin 4096 → Fin 8 → Fin 192 → EReal) (v : Fin 8 → Fin 4096 → Fin 8 → Fin 128 → EReal)
    (b : Fin 8) (t : Fin 4096) (h : Fin 8) (d : Fin 128) : EReal :=
  ∑ j ∈ Finset.range 4096, v b ⟨j % 4096, Nat.mod_lt _ (by norm_num)⟩ h d
    * Ideal.div (Ideal.exp (msc q k b t h j - rowMax (msc q k b t h) 4096))
        (0 + ∑ i ∈ Finset.range 4096, Ideal.exp (msc q k b t h i - rowMax (msc q k b t h) 4096))

end Cert.Mla

end
-- ==== Proof.MlaRef.lean ====
/-
  The reference's result read at one entry.
-/
module

public import proofs.«01_k».proof.Proof.Gen.ReferenceIdeal.Run
public import proofs.«01_k».proof.Proof.MlaSpec
public import Idealize.ShloMosaic.Lib.Pointwise
public import Idealize.ShloMosaic.Lib.Tactic.CleanTypes

@[expose] public section

set_option maxRecDepth 16384

noncomputable section

namespace Cert.Mla.ReferenceIdeal

open Cert.ReferenceIdeal Cert.ReferenceIdeal.Gen Cert.ReferenceIdeal.Value
open Idealize.ShloMosaic Idealize.ShloMosaic.TcCoe Idealize.ShloMosaic.Tactic

/-- The word of minus infinity. -/
theorem ninf_word : (FloatOps.ofBits (F := Ideal) .f32 0xFF800000#32 : EReal) = ⊥ := by
  rw [Ideal.ofBits_def]; simp [Ideal.ofBits, Ideal.ieee, -EReal.coe_mul]

/-- The number of the 64-row chunk holding row `n`, as the words of the program compute it. -/
def chunk (n : ℕ) : BitVec 32 :=
  Scalar.select
    (IntOp.andi
      (IntOp.cmpi CmpIPredicate.ne
        (if BitVec.ofNat 32 n = 0 then (0 : BitVec 32) else if (BitVec.ofNat 32 n).msb = true then -1 else 1)
        (if (64#32 : BitVec 32) = 0 then (0 : BitVec 32) else if (64#32 : BitVec 32).msb = true then -1 else 1))
      (IntOp.cmpi CmpIPredicate.ne (IntOp.remsi ArithUnit.host (BitVec.ofNat 32 n) 64#32) 0#32))
    (IntOp.subi (IntOp.divsi ArithUnit.host (BitVec.ofNat 32 n) 64#32) 1#32)
    (IntOp.divsi ArithUnit.host (BitVec.ofNat 32 n) 64#32)

/-- The word computed for a row is the row's number divided by 64. -/
theorem chunk_eq : ∀ n : Fin 4096, chunk n.val = BitVec.ofNat 32 (n.val / 64) := by
  decide +kernel

/-- Comparing two chunk numbers as words compares them as numbers. -/
theorem chunk_le : ∀ a b : Fin 64,
    IntOp.cmpi CmpIPredicate.sle (BitVec.ofNat 32 a.val) (BitVec.ofNat 32 b.val)
      = if a.val ≤ b.val then 1#1 else 0#1 := by
  decide +kernel

/-- The chunk number of every row, as the program computes it. -/
def cv : IVec S4096 32 := select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))
/-- The masked scores. -/
def mk (q k : FVec Ideal S8x4096x8x192 .f32) : FVec Ideal S8x8x4096x4096 .f32 := select (broadcastInDim S8x8x4096x4096 ![0, 1, 2, 3] bcast_S1x1x4096x4096_S8x8x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 cv)) (broadcastInDim S4096x4096 ![0, 1] bcast_S4096x1_S4096x4096_0_1 (broadcastInDim S4096x1 ![0] bcast_S4096_S4096x1_0 cv))))) (Host.divf (Host.dotGeneral dot_S8x4096x8x192_S8x4096x8x192_S8x8x4096x4096_3_3_1_1_02_02 none q k) (broadcastInDim S8x8x4096x4096 ![] bcast_S_S8x8x4096x4096 (Host.sqrt (constant (F := Ideal) S_ .f32 0x43400000#32)))) (broadcastInDim S8x8x4096x4096 ![] bcast_S_S8x8x4096x4096 (id (constant (F := Ideal) S_ .f32 0xFF800000#32)))
/-- The greatest score of each row. -/
def mr (s : FVec Ideal S8x8x4096x4096 .f32) : FVec Ideal S8x8x4096 .f32 := Host.reduce FloatOps.maximumf s (constant (F := Ideal) S_ .f32 0xFF800000#32) reducesTo_S8x8x4096x4096_S8x8x4096_d3 h_S_
/-- One number for each row, not below minus infinity, repeated along the row. -/
def mb (g : FVec Ideal S8x8x4096 .f32) : FVec Ideal S8x8x4096x4096 .f32 := broadcastInDim S8x8x4096x4096 ![0, 1, 2, 3] bcast_S8x8x4096x1_S8x8x4096x4096_0_1_2_3 (broadcastInDim S8x8x4096x1 ![0, 1, 2] bcast_S8x8x4096_S8x8x4096x1_0_1_2 (maximumf (F := Ideal) (broadcastInDim S8x8x4096 ![] bcast_S_S8x8x4096 (constant (F := Ideal) S_ .f32 0xFF800000#32)) g))
/-- The greatest score of each row, repeated along the row. -/
def mx (s : FVec Ideal S8x8x4096x4096 .f32) : FVec Ideal S8x8x4096x4096 .f32 := mb (mr s)
/-- The exponentials of one array less another. -/
def pg (s g : FVec Ideal S8x8x4096x4096 .f32) : FVec Ideal S8x8x4096x4096 .f32 := Host.exp (F := Ideal) (subf s g)
/-- The exponentials of the scores less their greatest. -/
def pe (s : FVec Ideal S8x8x4096x4096 .f32) : FVec Ideal S8x8x4096x4096 .f32 := pg s (mx s)
/-- A row over its sum. -/
def nm (p : FVec Ideal S8x8x4096x4096 .f32) : FVec Ideal S8x8x4096x4096 .f32 := Host.divf (F := Ideal) p (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduceAdd p (constant (F := Ideal) S_ .f32 0x00000000#32) reducesTo_S8x8x4096x4096_S8x8x4096_d3 h_S_)))
/-- The values averaged, in the result's layout. -/
def fin (v : FVec Ideal S8x4096x8x128 .f32) (p : FVec Ideal S8x8x4096x4096 .f32) : FVec Ideal S32768x1024 .bf16 := truncf .bf16 (shapeCast S32768x1024 (transpose S8x4096x8x128 [0, 3, 1, 2] (Host.dotGeneral dot_S8x4096x8x128_S8x8x4096x4096_S8x8x128x4096_1_3_3_2_02_01 none v p) transposes_S8x8x128x4096_S8x4096x8x128_0_3_1_2) shapeCasts_S8x4096x8x128_S32768x1024) bitsLt_bf16_f32

/-- The masked score as the program selects it. -/
def selS (q k : Fin 8 → Fin 4096 → Fin 8 → Fin 192 → EReal) (b : Fin 8) (t : Fin 4096) (h : Fin 8) (j : Fin 4096) : EReal :=
  Scalar.select (IntOp.cmpi CmpIPredicate.sle (chunk j.val) (chunk t.val))
    (qk q k b t h j) (Ideal.ofBits FTy.f32 4286578688#32)

/-- The program's selected score is the masked score. -/
theorem selS_eq (q k : Fin 8 → Fin 4096 → Fin 8 → Fin 192 → EReal) (b : Fin 8) (t : Fin 4096) (h : Fin 8) (j : Fin 4096) :
    selS q k b t h j = msc q k b t h j.val := by
  have hj := chunk_le ⟨j.val / 64, by omega⟩ ⟨t.val / 64, by omega⟩
  have e : (⟨j.val % 4096, Nat.mod_lt _ (by norm_num)⟩ : Fin 4096) = j := Fin.ext (Nat.mod_eq_of_lt j.isLt)
  unfold selS msc
  rw [chunk_eq j, chunk_eq t, hj, e, ← Ideal.ofBits_def, ninf_word]
  by_cases hc : j.val / 64 ≤ t.val / 64
  · simp only [if_pos hc]; rfl
  · simp only [if_neg hc]; rfl

/-- The greatest of a row, as the program folds it. -/
def top (q k : Fin 8 → Fin 4096 → Fin 8 → Fin 192 → EReal) (b : Fin 8) (t : Fin 4096) (h : Fin 8) : EReal :=
  max (Ideal.ofBits FTy.f32 4286578688#32)
    (Finset.fold max (Ideal.ofBits FTy.f32 4286578688#32) (fun x => selS q k b t h x) Finset.univ)

theorem top_eq (q k : Fin 8 → Fin 4096 → Fin 8 → Fin 192 → EReal) (b : Fin 8) (t : Fin 4096) (h : Fin 8) :
    top q k b t h = rowMax (msc q k b t h) 4096 := by
  unfold top rowMax
  simp only [selS_eq]
  rw [← Ideal.ofBits_def, ninf_word, max_eq_right bot_le]
  refine le_antisymm ((Finset.fold_max_le _).2 ⟨bot_le, fun x _ => Finset.le_sup (f := msc q k b t h) (Finset.mem_range.2 x.isLt)⟩)
    (Finset.sup_le fun j hj => (Finset.le_fold_max _).2 (Or.inr ⟨⟨j, Finset.mem_range.1 hj⟩, Finset.mem_univ _, le_rfl⟩))

variable (m : (ℓ : Loc nD τ sig) → Buf (Elt Ideal) ℓ)

theorem cv_apply (n : Fin 4096) : cv (ix1 n) = chunk n.val := by
  pointwise [cv, chunk]
  rfl

theorem mk_apply (q k : FVec Ideal S8x4096x8x192 .f32) (b h : Fin 8) (t j : Fin 4096) :
    mk q k (ix4 b h t j) = selS (fun b t h d => q (ix4 b t h d)) (fun b t h d => k (ix4 b t h d)) b t h j := by
  unfold selS
  rw [← cv_apply, ← cv_apply]
  pointwise [mk, qk]
  rfl

theorem mr_apply (s : FVec Ideal S8x8x4096x4096 .f32) (b h : Fin 8) (t : Fin 4096) :
    mr s (ix3 b h t) = Finset.fold max (Ideal.ofBits FTy.f32 4286578688#32) (fun x => s (ix4 b h t x)) Finset.univ := by
  unfold mr
  have hr : S8x8x4096x4096.Reduces [3] S8x8x4096 := by decide
  refine (Host.reduce_eq_fold_single (FloatOps.maximumf (F := Ideal) (φ := .f32)) s _ reducesTo_S8x8x4096x4096_S8x8x4096_d3 hr h_S_ (ix3 b h t)).trans ?_
  have hl : ∀ x : Fin 4096, hr.lift (ix3 b h t) x = ix4 b h t x := by
    intro x
    funext a
    fin_cases a <;> rfl
  exact congrArg (fun f : Fin 4096 → EReal => Finset.fold max (Ideal.ofBits FTy.f32 4286578688#32) f Finset.univ) (funext fun x => congrArg s (hl x))

theorem mb_apply (g : FVec Ideal S8x8x4096 .f32) (b h : Fin 8) (t j : Fin 4096) :
    mb g (ix4 b h t j) = max (Ideal.ofBits FTy.f32 4286578688#32) (g (ix3 b h t)) := by
  pointwise [mb]

theorem mx_apply (s : FVec Ideal S8x8x4096x4096 .f32) (b h : Fin 8) (t j : Fin 4096) :
    mx s (ix4 b h t j) = max (Ideal.ofBits FTy.f32 4286578688#32)
      (Finset.fold max (Ideal.ofBits FTy.f32 4286578688#32) (fun x => s (ix4 b h t x)) Finset.univ) := by
  exact (mb_apply (mr s) b h t j).trans (congrArg (fun x : EReal => max (Ideal.ofBits FTy.f32 4286578688#32) x) (mr_apply s b h t))

theorem pg_apply (s g : FVec Ideal S8x8x4096x4096 .f32) (b h : Fin 8) (t j : Fin 4096) :
    pg s g (ix4 b h t j) = Ideal.exp (s (ix4 b h t j) - g (ix4 b h t j)) := by
  pointwise [pg]

theorem pe_apply (s : FVec Ideal S8x8x4096x4096 .f32) (b h : Fin 8) (t j : Fin 4096) :
    pe s (ix4 b h t j) = Ideal.exp (s (ix4 b h t j) - mx s (ix4 b h t j)) := by
  exact pg_apply s (mx s) b h t j

theorem nm_apply (p : FVec Ideal S8x8x4096x4096 .f32) (b h : Fin 8) (t j : Fin 4096) :
    nm p (ix4 b h t j) = Ideal.div (p (ix4 b h t j)) (∑ x : Fin 4096, p (ix4 b h t x)) := by
  pointwise [nm]

theorem fin_apply (v : FVec Ideal S8x4096x8x128 .f32) (p : FVec Ideal S8x8x4096x4096 .f32) (R : Fin 32768) (C : Fin 1024) :
    fin v p (ix2 R C) = ∑ x : Fin 4096,
      v (ix4 ⟨R.val / 4096, by omega⟩ x ⟨C.val / 128, by omega⟩ ⟨C.val % 128, by omega⟩)
        * p (ix4 ⟨R.val / 4096, by omega⟩ ⟨C.val / 128, by omega⟩ ⟨R.val % 4096, by omega⟩ x) := by
  pointwise [fin]

/-- The queries by batch, row, head and component. -/
def Q (c : Dev nD) (b : Fin 8) (t : Fin 4096) (h : Fin 8) (d : Fin 192) : EReal :=
  (m (c.tc.loc main_arg0) : Vec Ideal S8x4096x8x192 .f32) (ix4 b t h d)
/-- The keys by batch, row, head and component. -/
def K (c : Dev nD) (b : Fin 8) (t : Fin 4096) (h : Fin 8) (d : Fin 192) : EReal :=
  (m (c.tc.loc main_arg1) : Vec Ideal S8x4096x8x192 .f32) (ix4 b t h d)
/-- The values by batch, row, head and component. -/
def W (c : Dev nD) (b : Fin 8) (t : Fin 4096) (h : Fin 8) (d : Fin 128) : EReal :=
  (m (c.tc.loc main_arg2) : Vec Ideal S8x4096x8x128 .f32) (ix4 b t h d)

/-- The reference's result is the stages composed. -/
theorem res_eq (c : Dev nD) : res_main_v28 m c = fin (m (c.tc.loc main_arg2)) (nm (pe (mk (m (c.tc.loc main_arg0)) (m (c.tc.loc main_arg1))))) := by
  unfold res_main_v28 fin nm pe pg mx mb mr mk cv
  rfl

/-- The reference's result, one entry: the attention. -/
theorem res_at (c : Dev nD) (R : Fin 32768) (C : Fin 1024) :
    (res_main_v28 m c : Vec Ideal S32768x1024 .bf16) (ix2 R C)
      = att (Q m c) (K m c) (W m c) ⟨R.val / 4096, by omega⟩ ⟨R.val % 4096, by omega⟩ ⟨C.val / 128, by omega⟩ ⟨C.val % 128, by omega⟩ := by
  have hs : ∀ b h t j, mk (m (c.tc.loc main_arg0)) (m (c.tc.loc main_arg1)) (ix4 b h t j) = msc (Q m c) (K m c) b t h j.val :=
    fun b h t j => (mk_apply _ _ b h t j).trans (selS_eq _ _ b t h j)
  have hm : ∀ b h t j, mx (mk (m (c.tc.loc main_arg0)) (m (c.tc.loc main_arg1))) (ix4 b h t j) = rowMax (msc (Q m c) (K m c) b t h) 4096 :=
    fun b h t j => (mx_apply _ b h t j).trans ((congrArg (fun f : Fin 4096 → EReal => max (Ideal.ofBits FTy.f32 4286578688#32)
      (Finset.fold max (Ideal.ofBits FTy.f32 4286578688#32) f Finset.univ)) (funext fun x => mk_apply _ _ b h t x)).trans (top_eq _ _ b t h))
  have hp : ∀ b h t j, pe (mk (m (c.tc.loc main_arg0)) (m (c.tc.loc main_arg1))) (ix4 b h t j)
      = Ideal.exp (msc (Q m c) (K m c) b t h j.val - rowMax (msc (Q m c) (K m c) b t h) 4096) :=
    fun b h t j => (pe_apply _ b h t j).trans (by rw [hs, hm])
  have hn : ∀ b h t j, nm (pe (mk (m (c.tc.loc main_arg0)) (m (c.tc.loc main_arg1)))) (ix4 b h t j)
      = Ideal.div (Ideal.exp (msc (Q m c) (K m c) b t h j.val - rowMax (msc (Q m c) (K m c) b t h) 4096))
          (0 + ∑ i ∈ Finset.range 4096, Ideal.exp (msc (Q m c) (K m c) b t h i - rowMax (msc (Q m c) (K m c) b t h) 4096)) :=
    fun b h t j => (nm_apply _ b h t j).trans (by simp only [hp, zero_add, Finset.sum_range])
  rw [res_eq]
  refine (fin_apply _ _ R C).trans ?_
  unfold att
  rw [Finset.sum_range]
  refine Finset.sum_congr rfl fun x _ => ?_
  rw [hn]
  simp only [Nat.mod_eq_of_lt x.isLt]
  rfl

end Cert.Mla.ReferenceIdeal

end
-- ==== Proof.MlaBlock.lean ====
/-
  The attention kernel's block operations over the extended reals, read at one entry: a score block as inner products,
  its column maxima, the powers of two of the differences to a maximum, and the accumulator's rescale-and-add.
-/
module

public import proofs.«01_k».proof.Proof.MlaOut
public import proofs.«01_k».proof.Proof.MlaMath
public import Idealize.ShloMosaic.Lib.Pointwise
public import Idealize.ShloMosaic.Lib.MatmulPlain
public import Idealize.ShloMosaic.Lib.ValueLayout

@[expose] public section

set_option maxRecDepth 16384

noncomputable section

namespace Cert.Mla.KernelIdeal

open Cert.KernelIdeal Cert.KernelIdeal.Gen
open Idealize.ShloMosaic Idealize.ShloMosaic.TcCoe Idealize.ShloMosaic.Tactic

theorem zero_word : (FloatOps.ofBits (F := Ideal) .f32 0x00000000#32 : EReal) = 0 := by
  rw [Ideal.ofBits_def]; simp [Ideal.ofBits, Ideal.ieee, -EReal.coe_mul]

theorem ninf_word : (FloatOps.ofBits (F := Ideal) .f32 0xFF800000#32 : EReal) = ⊥ := by
  rw [Ideal.ofBits_def]; simp [Ideal.ofBits, Ideal.ieee, -EReal.coe_mul]

theorem mask_word : Named.named (F := Ideal) (φ := .f32) κ "mask" 0xF149F2CA#32 = (⊥ : EReal) :=
  IdealRules.named_const.ideal_named_scalar _ _ _ _ rfl

theorem pay2_apply (k : Vec Ideal S512x256 .bf16) (q : Vec Ideal S1024x256 .bf16) (r : Fin 512) (c : Fin 1024) :
    k0_pay2 k q (ix2 r c) = ∑ d : Fin 256, k (ix2 r d) * q (ix2 c d) := by
  pointwise [k0_pay2]

theorem pay31_apply (k : Vec Ideal S512x256 .bf16) (q : Vec Ideal S1024x256 .bf16) (r : Fin 512) (c : Fin 1024) :
    k0_pay31 k q (ix2 r c) = ∑ d : Fin 256, k (ix2 r d) * q (ix2 c d) := by
  pointwise [k0_pay31]

theorem pay48_apply (k : Vec Ideal S512x256 .bf16) (q : Vec Ideal S1024x256 .bf16) (r : Fin 512) (c : Fin 1024) :
    k0_pay48 k q (ix2 r c) = ∑ d : Fin 256, k (ix2 r d) * q (ix2 c d) := by
  pointwise [k0_pay48]

theorem pay76_apply (k : Vec Ideal S512x256 .bf16) (q : Vec Ideal S1024x256 .bf16) (r : Fin 512) (c : Fin 1024) :
    k0_pay76 k q (ix2 r c) = ∑ d : Fin 256, k (ix2 r d) * q (ix2 c d) := by
  pointwise [k0_pay76]

theorem pay3_apply (k : Vec Ideal S512x256 .bf16) (q : Vec Ideal S1024x256 .bf16) (r : Fin 512) (c : Fin 1024) :
    k0_pay3 k q (ix2 r c) = ∑ d : Fin 256, k (ix2 r d) * q (ix2 c d) := by
  rw [← pay2_apply]
  pointwise [k0_pay3]

theorem pay32_apply (k : Vec Ideal S512x256 .bf16) (q : Vec Ideal S1024x256 .bf16) (r : Fin 512) (c : Fin 1024) :
    k0_pay32 k q (ix2 r c) = ∑ d : Fin 256, k (ix2 r d) * q (ix2 c d) := by
  rw [← pay31_apply]
  pointwise [k0_pay32]

theorem pay49_apply (k : Vec Ideal S512x256 .bf16) (q : Vec Ideal S1024x256 .bf16) (r : Fin 512) (c : Fin 1024) :
    k0_pay49 k q (ix2 r c) = ∑ d : Fin 256, k (ix2 r d) * q (ix2 c d) := by
  rw [← pay48_apply]
  pointwise [k0_pay49]

theorem pay77_apply (k : Vec Ideal S512x256 .bf16) (q : Vec Ideal S1024x256 .bf16) (r : Fin 512) (c : Fin 1024) :
    k0_pay77 k q (ix2 r c) = ∑ d : Fin 256, k (ix2 r d) * q (ix2 c d) := by
  rw [← pay76_apply]
  pointwise [k0_pay77]

theorem pay9_apply (k q : Vec Ideal S512x256 .bf16) (r c : Fin 512) :
    k0_pay9 k q (ix2 r c) = ∑ d : Fin 256, k (ix2 r d) * q (ix2 c d) := by
  pointwise [k0_pay9, k0_pay8]

theorem pay4_apply (k : Vec Ideal S512x256 .bf16) (q : Vec Ideal S1024x256 .bf16) (c : Fin 1024) :
    k0_pay4 k q (ix2 0 c) = Finset.univ.fold max ⊥ fun r : Fin 512 => ∑ d : Fin 256, k (ix2 r d) * q (ix2 c d) := by
  rw [show (fun r : Fin 512 => ∑ d : Fin 256, k (ix2 r d) * q (ix2 c d)) = fun r => k0_pay2 k q (ix2 r c) from funext fun r => (pay2_apply k q r c).symm]
  pointwise [k0_pay4]
  rw [← Ideal.ofBits_def, ninf_word]

theorem pay33_apply (k : Vec Ideal S512x256 .bf16) (q : Vec Ideal S1024x256 .bf16) (c : Fin 1024) :
    k0_pay33 k q (ix2 0 c) = Finset.univ.fold max ⊥ fun r : Fin 512 => ∑ d : Fin 256, k (ix2 r d) * q (ix2 c d) := by
  rw [show (fun r : Fin 512 => ∑ d : Fin 256, k (ix2 r d) * q (ix2 c d)) = fun r => k0_pay31 k q (ix2 r c) from funext fun r => (pay31_apply k q r c).symm]
  pointwise [k0_pay33]
  rw [← Ideal.ofBits_def, ninf_word]

theorem pay50_apply (k : Vec Ideal S512x256 .bf16) (q : Vec Ideal S1024x256 .bf16) (c : Fin 1024) :
    k0_pay50 k q (ix2 0 c) = Finset.univ.fold max ⊥ fun r : Fin 512 => ∑ d : Fin 256, k (ix2 r d) * q (ix2 c d) := by
  rw [show (fun r : Fin 512 => ∑ d : Fin 256, k (ix2 r d) * q (ix2 c d)) = fun r => k0_pay48 k q (ix2 r c) from funext fun r => (pay48_apply k q r c).symm]
  pointwise [k0_pay50]
  rw [← Ideal.ofBits_def, ninf_word]

theorem pay78_apply (k : Vec Ideal S512x256 .bf16) (q : Vec Ideal S1024x256 .bf16) (c : Fin 1024) :
    k0_pay78 k q (ix2 0 c) = Finset.univ.fold max ⊥ fun r : Fin 512 => ∑ d : Fin 256, k (ix2 r d) * q (ix2 c d) := by
  rw [show (fun r : Fin 512 => ∑ d : Fin 256, k (ix2 r d) * q (ix2 c d)) = fun r => k0_pay76 k q (ix2 r c) from funext fun r => (pay76_apply k q r c).symm]
  pointwise [k0_pay78]
  rw [← Ideal.ofBits_def, ninf_word]

theorem pay1_apply (x : FVec Ideal S1x1024 .f32) (c : Fin 1024) : k0_pay1 x (ix2 0 c) = x (ix2 0 c) := by
  pointwise [k0_pay1]
theorem pay61_apply (x : FVec Ideal S1x1024 .f32) (c : Fin 1024) : k0_pay61 x (ix2 0 c) = x (ix2 0 c) := by
  pointwise [k0_pay61]
theorem pay65_apply (x : FVec Ideal S1x1024 .f32) (c : Fin 1024) : k0_pay65 x (ix2 0 c) = x (ix2 0 c) := by
  pointwise [k0_pay65]
theorem pay63_apply (x : FVec Ideal S1x512 .f32) (c : Fin 512) : k0_pay63 x (ix2 0 c) = x (ix2 0 c) := by
  pointwise [k0_pay63]
theorem pay62_apply (x : FVec Ideal S144x512 .f32) (r : Fin 144) (c : Fin 512) : k0_pay62 x (ix2 r c) = x (ix2 r c) := by
  pointwise [k0_pay62]
theorem pay17_apply (a m : Vec Ideal S1x512 .f32) (c : Fin 512) : k0_pay17 a m (ix2 0 c) = max (m (ix2 0 c)) (a (ix2 0 c)) := by
  pointwise [k0_pay17]
theorem pay58_apply (c : Fin 1024) : k0_pay58 (F := Ideal) (ix2 0 c) = ⊥ := by
  pointwise [k0_pay58]
  exact mask_word
theorem pay74_apply (c : Fin 1024) : k0_pay74 (F := Ideal) (ix2 0 c) = ⊥ := by
  pointwise [k0_pay74]
  exact mask_word
theorem pay59_apply (r : Fin 144) (c : Fin 1024) : k0_pay59 (F := Ideal) (ix2 r c) = 0 := by
  pointwise [k0_pay59]
theorem pay75_apply (r : Fin 144) (c : Fin 1024) : k0_pay75 (F := Ideal) (ix2 r c) = 0 := by
  pointwise [k0_pay75]

theorem pay5_apply (a m : Vec Ideal S1x1024 .f32) (c : Fin 1024) : k0_pay5 a m (ix2 0 c) = max (m (ix2 0 c)) (a (ix2 0 c)) := by
  pointwise [k0_pay5]
theorem pay6_apply (s : Vec Ideal S512x1024 .f32) (a m : Vec Ideal S1x1024 .f32) (r : Fin 512) (c : Fin 1024) :
    k0_pay6 s a m (ix2 r c) = Ideal.exp2 (s (ix2 r c) - max (m (ix2 0 c)) (a (ix2 0 c))) := by
  pointwise [k0_pay6, k0_pay5]
  rfl
theorem pay7_apply (a m : Vec Ideal S1x1024 .f32) (c : Fin 1024) :
    k0_pay7 a m (ix2 0 c) = Ideal.exp2 (m (ix2 0 c) - max (m (ix2 0 c)) (a (ix2 0 c))) := by
  pointwise [k0_pay7, k0_pay5]
  rfl

theorem pay34_apply (a m : Vec Ideal S1x1024 .f32) (c : Fin 1024) : k0_pay34 a m (ix2 0 c) = max (m (ix2 0 c)) (a (ix2 0 c)) := by
  pointwise [k0_pay34]
theorem pay35_apply (s : Vec Ideal S512x1024 .f32) (a m : Vec Ideal S1x1024 .f32) (r : Fin 512) (c : Fin 1024) :
    k0_pay35 s a m (ix2 r c) = Ideal.exp2 (s (ix2 r c) - max (m (ix2 0 c)) (a (ix2 0 c))) := by
  pointwise [k0_pay35, k0_pay34]
  rfl
theorem pay36_apply (a m : Vec Ideal S1x1024 .f32) (c : Fin 1024) :
    k0_pay36 a m (ix2 0 c) = Ideal.exp2 (m (ix2 0 c) - max (m (ix2 0 c)) (a (ix2 0 c))) := by
  pointwise [k0_pay36, k0_pay34]
  rfl

theorem pay60_apply (p : FVec Ideal S512x1024 .f32) (f : FVec Ideal S1x1024 .f32) (acc : Vec Ideal S144x1024 .f32) (v : Vec Ideal S1x144x512 .bf16) (r : Fin 144) (c : Fin 1024) :
    k0_pay60 p f acc v (ix2 r c) = f (ix2 0 c) * acc (ix2 r c) + ∑ j : Fin 512, v (ix3 0 r j) * p (ix2 j c) := by
  pointwise [k0_pay60]

theorem pay64_apply (p : FVec Ideal S512x1024 .f32) (f : FVec Ideal S1x1024 .f32) (acc : Vec Ideal S144x1024 .f32) (v : Vec Ideal S1x144x512 .bf16) (r : Fin 144) (c : Fin 1024) :
    k0_pay64 p f acc v (ix2 r c) = f (ix2 0 c) * acc (ix2 r c) + ∑ j : Fin 512, v (ix3 0 r j) * p (ix2 j c) := by
  pointwise [k0_pay64]

/-- The masked scores' maximum: the hidden ones are −∞. -/
theorem pay12_apply (v : IVec S512x512 1) (s : Vec Ideal S512x512 .f32) (m : Vec Ideal S1x512 .f32) (c : Fin 512) :
    k0_pay12 v s m (ix2 0 c) = max (m (ix2 0 c)) (Finset.univ.fold max ⊥ fun r : Fin 512 => if v (ix2 r c) = 1#1 then s (ix2 r c) else ⊥) := by
  pointwise [k0_pay12, k0_pay11]
  rw [← Ideal.ofBits_def, ninf_word, mask_word]
  rfl
theorem pay13_apply (v : IVec S512x512 1) (s : Vec Ideal S512x512 .f32) (m : Vec Ideal S1x512 .f32) (r c : Fin 512) :
    k0_pay13 v s m (ix2 r c) = Ideal.exp2 ((if v (ix2 r c) = 1#1 then s (ix2 r c) else ⊥) - max (m (ix2 0 c)) (Finset.univ.fold max ⊥ fun r : Fin 512 => if v (ix2 r c) = 1#1 then s (ix2 r c) else ⊥)) := by
  rw [← pay12_apply]
  pointwise [k0_pay13, k0_pay11]
  rw [mask_word]
  rfl
theorem pay14_apply (v : IVec S512x512 1) (s : Vec Ideal S512x512 .f32) (m : Vec Ideal S1x512 .f32) (c : Fin 512) :
    k0_pay14 v s m (ix2 0 c) = m (ix2 0 c) - max (m (ix2 0 c)) (Finset.univ.fold max ⊥ fun r : Fin 512 => if v (ix2 r c) = 1#1 then s (ix2 r c) else ⊥) := by
  rw [← pay12_apply]
  pointwise [k0_pay14]
theorem pay15_apply (p : FVec Ideal S512x512 .f32) (f : FVec Ideal S1x512 .f32) (acc : Vec Ideal S144x512 .f32) (v : Vec Ideal S1x144x512 .bf16) (r : Fin 144) (c : Fin 512) :
    k0_pay15 p f acc v (ix2 r c) = Ideal.exp2 (f (ix2 0 c)) * acc (ix2 r c) + ∑ j : Fin 512, v (ix3 0 r j) * p (ix2 j c) := by
  pointwise [k0_pay15]
  rfl

/-- The masked scores' maximum: the hidden ones are −∞. -/
theorem pay52_apply (v : IVec S512x512 1) (s : Vec Ideal S512x512 .f32) (m : Vec Ideal S1x512 .f32) (c : Fin 512) :
    k0_pay52 v s m (ix2 0 c) = max (m (ix2 0 c)) (Finset.univ.fold max ⊥ fun r : Fin 512 => if v (ix2 r c) = 1#1 then s (ix2 r c) else ⊥) := by
  pointwise [k0_pay52, k0_pay51]
  rw [← Ideal.ofBits_def, ninf_word, mask_word]
  rfl
theorem pay53_apply (v : IVec S512x512 1) (s : Vec Ideal S512x512 .f32) (m : Vec Ideal S1x512 .f32) (r c : Fin 512) :
    k0_pay53 v s m (ix2 r c) = Ideal.exp2 ((if v (ix2 r c) = 1#1 then s (ix2 r c) else ⊥) - max (m (ix2 0 c)) (Finset.univ.fold max ⊥ fun r : Fin 512 => if v (ix2 r c) = 1#1 then s (ix2 r c) else ⊥)) := by
  rw [← pay52_apply]
  pointwise [k0_pay53, k0_pay51]
  rw [mask_word]
  rfl
theorem pay54_apply (v : IVec S512x512 1) (s : Vec Ideal S512x512 .f32) (m : Vec Ideal S1x512 .f32) (c : Fin 512) :
    k0_pay54 v s m (ix2 0 c) = m (ix2 0 c) - max (m (ix2 0 c)) (Finset.univ.fold max ⊥ fun r : Fin 512 => if v (ix2 r c) = 1#1 then s (ix2 r c) else ⊥) := by
  rw [← pay52_apply]
  pointwise [k0_pay54]
theorem pay55_apply (p : FVec Ideal S512x512 .f32) (f : FVec Ideal S1x512 .f32) (acc : Vec Ideal S144x512 .f32) (v : Vec Ideal S1x144x512 .bf16) (r : Fin 144) (c : Fin 512) :
    k0_pay55 p f acc v (ix2 r c) = Ideal.exp2 (f (ix2 0 c)) * acc (ix2 r c) + ∑ j : Fin 512, v (ix3 0 r j) * p (ix2 j c) := by
  pointwise [k0_pay55]
  rfl

theorem pay18_apply (s : Vec Ideal S512x512 .f32) (a m : Vec Ideal S1x512 .f32) (acc : Vec Ideal S144x512 .f32) (v : Vec Ideal S1x144x512 .bf16) (r : Fin 144) (c : Fin 512) :
    k0_pay18 s a m acc v (ix2 r c) = Ideal.exp2 (m (ix2 0 c) - max (m (ix2 0 c)) (a (ix2 0 c))) * acc (ix2 r c)
      + ∑ j : Fin 512, v (ix3 0 r j) * Ideal.exp2 (s (ix2 j c) - max (m (ix2 0 c)) (a (ix2 0 c))) := by
  pointwise [k0_pay18, k0_pay17]
  rfl

/-- The result's rows: the accumulator's first 128 rows over its row of weights, transposed. -/
theorem pay57_apply (v : Vec Ideal S144x1024 .f32) (r : Fin 1024) (c : Fin 128) :
    k0_pay57 v (ix2 r c) = Ideal.div (v (ix2 ⟨c.val, by omega⟩ r)) (v (ix2 128 r)) := by
  pointwise [k0_pay57]

/-! ## Low and high lanes -/

theorem loS_apply (x : Vec Ideal S512x1024 .f32) (r c : Fin 512) : loS x (ix2 r c) = x (ix2 r ⟨c.val, by omega⟩) :=
  congrArg x (by funext a; match a with
    | ⟨0, _⟩ => exact Fin.ext (by show 0 + 1 * r.val = r.val; omega)
    | ⟨1, _⟩ => exact Fin.ext (by show 0 + 1 * c.val = c.val; omega))
theorem hiS_apply (x : Vec Ideal S512x1024 .f32) (r c : Fin 512) : hiS x (ix2 r c) = x (ix2 r ⟨512 + c.val, by omega⟩) :=
  congrArg x (by funext a; match a with
    | ⟨0, _⟩ => exact Fin.ext (by show 0 + 1 * r.val = r.val; omega)
    | ⟨1, _⟩ => exact Fin.ext (by show 512 + 1 * c.val = 512 + c.val; omega))
theorem loM_apply (x : Vec Ideal S1x1024 .f32) (c : Fin 512) : loM x (ix2 0 c) = x (ix2 0 ⟨c.val, by omega⟩) :=
  congrArg x (by funext a; match a with
    | ⟨0, _⟩ => rfl
    | ⟨1, _⟩ => exact Fin.ext (by show 0 + 1 * c.val = c.val; omega))
theorem hiM_apply (x : Vec Ideal S1x1024 .f32) (c : Fin 512) : hiM x (ix2 0 c) = x (ix2 0 ⟨512 + c.val, by omega⟩) :=
  congrArg x (by funext a; match a with
    | ⟨0, _⟩ => rfl
    | ⟨1, _⟩ => exact Fin.ext (by show 512 + 1 * c.val = 512 + c.val; omega))
theorem loA_apply (x : Vec Ideal S144x1024 .f32) (r : Fin 144) (c : Fin 512) : loA x (ix2 r c) = x (ix2 r ⟨c.val, by omega⟩) :=
  congrArg x (by funext a; match a with
    | ⟨0, _⟩ => exact Fin.ext (by show 0 + 1 * r.val = r.val; omega)
    | ⟨1, _⟩ => exact Fin.ext (by show 0 + 1 * c.val = c.val; omega))
theorem hiA_apply (x : Vec Ideal S144x1024 .f32) (r : Fin 144) (c : Fin 512) : hiA x (ix2 r c) = x (ix2 r ⟨512 + c.val, by omega⟩) :=
  congrArg x (by funext a; match a with
    | ⟨0, _⟩ => exact Fin.ext (by show 0 + 1 * r.val = r.val; omega)
    | ⟨1, _⟩ => exact Fin.ext (by show 512 + 1 * c.val = 512 + c.val; omega))

/-- Both halves of the accumulator stored: a low lane is the first's, a high lane the second's. -/
theorem halves_lo (x : Vec Ideal S144x1024 .f32) (a b : Vec Ideal S144x512 .f32) (r : Fin 144) (c : Fin 1024) (h : c.val < 512) :
    VecWindow.put (s := S144x1024) (VecWindow.put (s := S144x1024) x ![0, 0] S144x512.size a) ![0, 512] S144x512.size b (ix2 r c) = a (ix2 r ⟨c.val, h⟩) := by
  have h1 := r.isLt
  unfold VecWindow.put
  rw [dif_neg (fun hh => absurd ((Fin.forall_fin_two.1 hh).2.1 : 512 ≤ c.val) (by omega)),
    dif_pos (Fin.forall_fin_two.2 ⟨⟨Nat.zero_le _, by show r.val < 0 + 144; omega⟩, ⟨Nat.zero_le _, by show c.val < 0 + 512; omega⟩⟩)]
  exact congrArg a (by funext i; match i with | ⟨0, _⟩ => rfl | ⟨1, _⟩ => rfl)
theorem halves_hi (x : Vec Ideal S144x1024 .f32) (a b : Vec Ideal S144x512 .f32) (r : Fin 144) (c : Fin 1024) (h : ¬ c.val < 512) :
    VecWindow.put (s := S144x1024) (VecWindow.put (s := S144x1024) x ![0, 0] S144x512.size a) ![0, 512] S144x512.size b (ix2 r c) = b (ix2 r ⟨c.val - 512, by omega⟩) := by
  have h1 := r.isLt
  have h2 := c.isLt
  unfold VecWindow.put
  rw [dif_pos (Fin.forall_fin_two.2 ⟨⟨Nat.zero_le _, by show r.val < 0 + 144; omega⟩, ⟨by show 512 ≤ c.val; omega, by show c.val < 512 + 512; omega⟩⟩)]
  exact congrArg b (by funext i; match i with | ⟨0, _⟩ => rfl | ⟨1, _⟩ => rfl)

/-! ## The mask of a diagonal block -/

theorem pay68_apply (r c : Fin 512) : k0_pay68 (ix2 r c) = BitVec.ofNat 32 (r.val / 64) := by
  pointwise [k0_pay68]
  revert r
  decide +kernel

theorem pay73_apply (r c : Fin 512) : k0_pay73 k0_pay68 k0_pay69 k0_pay70 k0_pay71 k0_pay72 (ix2 r c)
    = IntOp.cmpi .sle (BitVec.ofNat 32 (r.val / 64)) (BitVec.ofNat 32 (c.val / 64)) := by
  have h : ∀ w : BitVec 32, w = BitVec.ofNat 32 (c.val / 64) → IntOp.cmpi .sle (BitVec.ofNat 32 (r.val / 64)) w
      = IntOp.cmpi .sle (BitVec.ofNat 32 (r.val / 64)) (BitVec.ofNat 32 (c.val / 64)) := fun w e => by rw [e]
  pointwise [k0_pay73, k0_pay69, k0_pay70, k0_pay71, k0_pay72]
  rw [pay68_apply]
  apply h
  clear h
  revert c
  decide +kernel

/-- A key is visible in a diagonal block when its chunk is not after the query's. -/
theorem maskV_apply (r c : Fin 512) : maskV (ix2 r c) = 1#1 ↔ r.val / 64 ≤ c.val / 64 := by
  unfold maskV
  rw [pay73_apply]
  have h : ∀ a b : Fin 8, IntOp.cmpi .sle (BitVec.ofNat 32 a.val) (BitVec.ofNat 32 b.val) = 1#1 ↔ a.val ≤ b.val := by decide +kernel
  exact h ⟨r.val / 64, by omega⟩ ⟨c.val / 64, by omega⟩

/-! ## Windows of the inputs -/

theorem rowsL_apply (x : Vec Ideal S4096x256 .bf16) (n : ℕ) (c : Fin 1024) (d : Fin 256) :
    rowsL x n (ix2 c d) = x (ix2 ⟨(n + c.val) % 4096, Nat.mod_lt _ (by decide)⟩ d) := by
  unfold rowsL
  rw [ix2_eq_valueIdx, ix2_eq_valueIdx]
theorem rowsS_apply (x : Vec Ideal S4096x256 .bf16) (n : ℕ) (c : Fin 512) (d : Fin 256) :
    rowsS x n (ix2 c d) = x (ix2 ⟨(n + c.val) % 4096, Nat.mod_lt _ (by decide)⟩ d) := by
  unfold rowsS
  rw [ix2_eq_valueIdx, ix2_eq_valueIdx]
theorem slab_apply (x : Vec Ideal S8x144x512 .bf16) (n : ℕ) (r : Fin 144) (j : Fin 512) :
    slab x n (ix3 0 r j) = x (ix3 ⟨n % 8, Nat.mod_lt _ (by decide)⟩ r j) := by
  unfold slab
  rw [ix3_eq_valueIdx, ix3_eq_valueIdx]
  rfl

end Cert.Mla.KernelIdeal

end
-- ==== Proof.MlaFold.lean ====
/-
  The attention kernel's trips over the extended reals: before trip `k` the running maximum and the accumulator hold the
  maximum and the weighted sums of the visible scores of the key blocks seen, so a query row of the result is its weighted
  values' sum over its weights' sum, taken over all visible keys.
-/
module

public import proofs.«01_k».proof.Proof.MlaBlock

@[expose] public section

set_option maxRecDepth 16384

noncomputable section

namespace Cert.Mla.KernelIdeal

open Cert.KernelIdeal Cert.KernelIdeal.Gen
open Idealize.ShloMosaic Idealize.ShloMosaic.TcCoe Idealize.ShloMosaic.Tactic

section
variable (x0 x1 : Vec Ideal S4096x256 .bf16) (x2 : Vec Ideal S8x144x512 .bf16)

/-- The score of a query row against a key row. -/
def dotS (row j : ℕ) : EReal :=
  ∑ d : Fin 256, x1 (ix2 ⟨j % 4096, Nat.mod_lt _ (by decide)⟩ d) * x0 (ix2 ⟨row % 4096, Nat.mod_lt _ (by decide)⟩ d)
/-- The same, hidden where the key's chunk of 64 comes after the query's. -/
def sc (row j : ℕ) : EReal := if j / 64 ≤ row / 64 then dotS x0 x1 row j else ⊥
/-- Row `r` of key `j`'s value column. -/
def val (r : Fin 144) (j : ℕ) : EReal := x2 (ix3 ⟨j / 512 % 8, Nat.mod_lt _ (by decide)⟩ r ⟨j % 512, Nat.mod_lt _ (by decide)⟩)

theorem sc_vis {row j : ℕ} (h : j / 64 ≤ row / 64) : sc x0 x1 row j = dotS x0 x1 row j := if_pos h

variable {x0 x1}
theorem sc_ne_top (hf : ∀ row j, dotS x0 x1 row j ≠ ⊤) (row j : ℕ) : sc x0 x1 row j ≠ ⊤ := by
  unfold sc
  split
  · exact hf _ _
  · exact bot_ne_top
variable (x0 x1)

/-- What the buffers hold when query tile `T` has seen `J` key blocks and block `J`'s scores are made. -/
structure Seen (T J : ℕ) (s : St Ideal) : Prop where
  hm : ∀ c : Fin 1024, s.m (ix2 0 c) = rowMax (sc x0 x1 (1024 * T + c.val)) (512 * J)
  hacc : ∀ (r : Fin 144) (c : Fin 1024), s.acc (ix2 r c) = rowAcc (sc x0 x1 (1024 * T + c.val)) (val x2 r) (512 * J)
  hsa : ∀ (j : Fin 512) (c : Fin 1024), s.sa (ix2 j c) = dotS x0 x1 (1024 * T + c.val) (512 * J + j.val)
  hma : ∀ c : Fin 1024, s.ma (ix2 0 c) = Finset.univ.fold max ⊥ fun j : Fin 512 => dotS x0 x1 (1024 * T + c.val) (512 * J + j.val)

theorem score_L (n J : ℕ) (j : Fin 512) (c : Fin 1024) :
    (∑ d : Fin 256, rowsS x1 (512 * J) (ix2 j d) * rowsL x0 n (ix2 c d)) = dotS x0 x1 (n + c.val) (512 * J + j.val) := by
  simp only [rowsS_apply, rowsL_apply]
  rfl

theorem score_S (n J : ℕ) (j c : Fin 512) :
    (∑ d : Fin 256, rowsS x1 (512 * J) (ix2 j d) * rowsS x0 n (ix2 c d)) = dotS x0 x1 (n + c.val) (512 * J + j.val) := by
  simp only [rowsS_apply]
  rfl

theorem slab_val (J : ℕ) (r : Fin 144) (j : Fin 512) : slab x2 J (ix3 0 r j) = val x2 r (512 * J + j.val) := by
  rw [slab_apply]
  unfold val
  have h1 : (512 * J + j.val) / 512 % 8 = J % 8 := by have := j.isLt; omega
  have h2 : (512 * J + j.val) % 512 = j.val := by have := j.isLt; omega
  simp only [h1, h2]

/-- A column of scores as the maximum reads it. -/
theorem scores_L (n J : ℕ) (c : Fin 1024) :
    (Finset.univ.fold max ⊥ fun j : Fin 512 => ∑ d : Fin 256, rowsS x1 (512 * J) (ix2 j d) * rowsL x0 n (ix2 c d)) = Finset.univ.fold max ⊥ fun j : Fin 512 => dotS x0 x1 (n + c.val) (512 * J + j.val) :=
  congrArg (fun f => Finset.fold max ⊥ f Finset.univ) (funext fun j => score_L x0 x1 n J j c)

theorem stepA_m (q q' : Vec Ideal S1024x256 .bf16) (k k' : Vec Ideal S512x256 .bf16) (v v' : Vec Ideal S1x144x512 .bf16) (s : St Ideal) :
    (stepA q q' k k' v v' s).m = k0_pay65 (k0_pay34 (k0_pay4 k q) (k0_pay61 (k0_pay5 s.ma s.m))) := by unfold stepA; dsimp only
theorem stepA_acc (q q' : Vec Ideal S1024x256 .bf16) (k k' : Vec Ideal S512x256 .bf16) (v v' : Vec Ideal S1x144x512 .bf16) (s : St Ideal) :
    (stepA q q' k k' v v' s).acc = k0_pay64 (k0_pay35 (k0_pay3 k q) (k0_pay4 k q) (k0_pay61 (k0_pay5 s.ma s.m))) (k0_pay36 (k0_pay4 k q) (k0_pay61 (k0_pay5 s.ma s.m)))
      (k0_pay60 (k0_pay6 s.sa s.ma s.m) (k0_pay7 s.ma s.m) s.acc v) v' := by unfold stepA; dsimp only
theorem stepA_sa (q q' : Vec Ideal S1024x256 .bf16) (k k' : Vec Ideal S512x256 .bf16) (v v' : Vec Ideal S1x144x512 .bf16) (s : St Ideal) :
    (stepA q q' k k' v v' s).sa = k0_pay32 k' q' := by unfold stepA; dsimp only
theorem stepA_ma (q q' : Vec Ideal S1024x256 .bf16) (k k' : Vec Ideal S512x256 .bf16) (v v' : Vec Ideal S1x144x512 .bf16) (s : St Ideal) :
    (stepA q q' k k' v v' s).ma = k0_pay33 k' q' := by unfold stepA; dsimp only
theorem stepB_m (n : ℕ) (qh : Vec Ideal S512x256 .bf16) (q' : Vec Ideal S1024x256 .bf16) (k k' : Vec Ideal S512x256 .bf16) (v v' : Vec Ideal S1x144x512 .bf16) (v50 : IVec S512x512 1) (s : St Ideal) :
    (stepB n qh q' k k' v v' v50 s).m = k0_pay58 (F := Ideal) := by unfold stepB; dsimp only
theorem stepB_acc (n : ℕ) (qh : Vec Ideal S512x256 .bf16) (q' : Vec Ideal S1024x256 .bf16) (k k' : Vec Ideal S512x256 .bf16) (v v' : Vec Ideal S1x144x512 .bf16) (v50 : IVec S512x512 1) (s : St Ideal) :
    (stepB n qh q' k k' v v' v50 s).acc = k0_pay59 (F := Ideal) := by unfold stepB; dsimp only
theorem stepB_sa (n : ℕ) (qh : Vec Ideal S512x256 .bf16) (q' : Vec Ideal S1024x256 .bf16) (k k' : Vec Ideal S512x256 .bf16) (v v' : Vec Ideal S1x144x512 .bf16) (v50 : IVec S512x512 1) (s : St Ideal) :
    (stepB n qh q' k k' v v' v50 s).sa = k0_pay49 k' q' := by unfold stepB; dsimp only
theorem stepB_ma (n : ℕ) (qh : Vec Ideal S512x256 .bf16) (q' : Vec Ideal S1024x256 .bf16) (k k' : Vec Ideal S512x256 .bf16) (v v' : Vec Ideal S1x144x512 .bf16) (v50 : IVec S512x512 1) (s : St Ideal) :
    (stepB n qh q' k k' v v' v50 s).ma = k0_pay50 k' q' := by unfold stepB; dsimp only
theorem start_m (s : St Ideal) : (start x0 x1 s).m = k0_pay74 (F := Ideal) := by unfold start; dsimp only
theorem start_acc (s : St Ideal) : (start x0 x1 s).acc = k0_pay75 (F := Ideal) := by unfold start; dsimp only
theorem start_sa (s : St Ideal) : (start x0 x1 s).sa = k0_pay77 (rowsS x1 0) (rowsL x0 0) := by unfold start; dsimp only
theorem start_ma (s : St Ideal) : (start x0 x1 s).ma = k0_pay1 (k0_pay78 (rowsS x1 0) (rowsL x0 0)) := by unfold start; dsimp only

/-- A block of visible scores folded in: the maximum. -/
theorem fold_max (row n : ℕ) (f : Fin 512 → EReal) (h : ∀ j, f j = sc x0 x1 row (n + j.val)) :
    max (rowMax (sc x0 x1 row) n) (Finset.univ.fold max ⊥ f) = rowMax (sc x0 x1 row) (n + 512) := by
  rw [show f = fun j : Fin 512 => sc x0 x1 row (n + j.val) from funext h, rowMax_add]

/-- A block of visible scores folded in: the accumulator. -/
theorem fold_acc (hf : ∀ row j, dotS x0 x1 row j ≠ ⊤) (row J : ℕ) (r : Fin 144) (f : Fin 512 → EReal) (h : ∀ j, f j = sc x0 x1 row (512 * J + j.val)) :
    Ideal.exp2 (rowMax (sc x0 x1 row) (512 * J) - rowMax (sc x0 x1 row) (512 * J + 512)) * rowAcc (sc x0 x1 row) (val x2 r) (512 * J)
      + ∑ j : Fin 512, slab x2 J (ix3 0 r j) * Ideal.exp2 (f j - rowMax (sc x0 x1 row) (512 * J + 512))
    = rowAcc (sc x0 x1 row) (val x2 r) (512 * J + 512) := by
  rw [← rowAcc_add (sc_ne_top hf row)]
  simp only [slab_val, h]

/-- A trip below the diagonal. -/
theorem seen_low (hf : ∀ row j, dotS x0 x1 row j ≠ ⊤) {T J : ℕ} (hJ : J + 2 ≤ 2 * T) {s : St Ideal} (hs : Seen x0 x1 x2 T J s) :
    Seen x0 x1 x2 T (J + 2) (stepA (rowsL x0 (1024 * T)) (rowsL x0 (1024 * T)) (rowsS x1 (512 * (J + 1))) (rowsS x1 (512 * (J + 2))) (slab x2 J) (slab x2 (J + 1)) s) := by
  have vis : ∀ (c : Fin 1024) (i : ℕ), i < 2 → ∀ j : Fin 512, dotS x0 x1 (1024 * T + c.val) (512 * (J + i) + j.val) = sc x0 x1 (1024 * T + c.val) (512 * (J + i) + j.val) := by
    intro c i hi j
    exact (sc_vis x0 x1 (by have := j.isLt; omega)).symm
  have m1 : ∀ c : Fin 1024, max (s.m (ix2 0 c)) (s.ma (ix2 0 c)) = rowMax (sc x0 x1 (1024 * T + c.val)) (512 * J + 512) := by
    intro c
    rw [hs.hm, hs.hma]
    exact fold_max x0 x1 _ _ _ fun j => vis c 0 (by omega) j
  have a1 : ∀ (r : Fin 144) (c : Fin 1024), k0_pay60 (k0_pay6 s.sa s.ma s.m) (k0_pay7 s.ma s.m) s.acc (slab x2 J) (ix2 r c) = rowAcc (sc x0 x1 (1024 * T + c.val)) (val x2 r) (512 * J + 512) := by
    intro r c
    rw [pay60_apply]
    simp only [pay6_apply, pay7_apply]
    rw [m1, hs.hm, hs.hacc]
    exact fold_acc x0 x1 x2 hf _ _ _ _ fun j => (hs.hsa j c).trans (vis c 0 (by omega) j)
  have mb : ∀ c : Fin 1024, k0_pay4 (rowsS x1 (512 * (J + 1))) (rowsL x0 (1024 * T)) (ix2 0 c) = Finset.univ.fold max ⊥ fun j : Fin 512 => dotS x0 x1 (1024 * T + c.val) (512 * (J + 1) + j.val) := by
    intro c
    rw [pay4_apply]
    exact scores_L x0 x1 _ _ _
  have m2 : ∀ c : Fin 1024, max (k0_pay61 (k0_pay5 s.ma s.m) (ix2 0 c)) (k0_pay4 (rowsS x1 (512 * (J + 1))) (rowsL x0 (1024 * T)) (ix2 0 c)) = rowMax (sc x0 x1 (1024 * T + c.val)) (512 * (J + 1) + 512) := by
    intro c
    rw [pay61_apply, pay5_apply, m1, mb, show 512 * J + 512 = 512 * (J + 1) by omega]
    exact fold_max x0 x1 _ _ _ fun j => vis c 1 (by omega) j
  refine ⟨fun c => ?_, fun r c => ?_, fun j c => ?_, fun c => ?_⟩
  · rw [stepA_m, pay65_apply, pay34_apply, m2, show 512 * (J + 2) = 512 * (J + 1) + 512 by omega]
  · rw [stepA_acc, pay64_apply]
    simp only [pay35_apply, pay36_apply]
    rw [m2, pay61_apply, pay5_apply, m1, a1, show 512 * J + 512 = 512 * (J + 1) by omega, show 512 * (J + 2) = 512 * (J + 1) + 512 by omega]
    exact fold_acc x0 x1 x2 hf _ _ _ _ fun j => (pay3_apply _ _ _ _).trans ((score_L x0 x1 _ _ _ _).trans (vis c 1 (by omega) j))
  · rw [stepA_sa]
    exact (pay32_apply _ _ _ _).trans (score_L x0 x1 _ _ _ _)
  · rw [stepA_ma]
    exact (pay33_apply _ _ _).trans (scores_L x0 x1 _ _ _)

/-- The state at the start of a query tile. -/
theorem seen_reset (v50 : IVec S512x512 1) (n T : ℕ) (qh : Vec Ideal S512x256 .bf16) (k : Vec Ideal S512x256 .bf16) (v v' : Vec Ideal S1x144x512 .bf16) (s : St Ideal) :
    Seen x0 x1 x2 T 0 (stepB n qh (rowsL x0 (1024 * T)) k (rowsS x1 (512 * 0)) v v' v50 s) := by
  refine ⟨fun c => ?_, fun r c => ?_, fun j c => ?_, fun c => ?_⟩
  · rw [stepB_m]
    exact pay58_apply c
  · rw [stepB_acc]
    exact (pay59_apply r c).trans (rowAcc_zero _ _).symm
  · rw [stepB_sa]
    exact (pay49_apply _ _ _ _).trans (score_L x0 x1 _ _ _ _)
  · rw [stepB_ma]
    exact (pay50_apply _ _ _).trans (scores_L x0 x1 _ _ _)

theorem seen_start (s : St Ideal) : Seen x0 x1 x2 0 0 (start x0 x1 s) := by
  refine ⟨fun c => ?_, fun r c => ?_, fun j c => ?_, fun c => ?_⟩
  · rw [start_m]
    exact pay74_apply c
  · rw [start_acc]
    exact (pay75_apply r c).trans (rowAcc_zero _ _).symm
  · rw [start_sa]
    exact (pay77_apply _ _ _ _).trans (score_L x0 x1 (1024 * 0) 0 _ _)
  · rw [start_ma, pay1_apply]
    exact (pay78_apply _ _ _).trans (scores_L x0 x1 (1024 * 0) 0 _)

theorem next_low : ∀ k : Fin 10, j0 k < 2 * qi k → k.val + 1 < 10 ∧ j0 k + 2 ≤ 2 * qi k ∧ qN k = qi k ∧ jN k = j0 k + 2 ∧ qi (k.val + 1) = qi k ∧ j0 (k.val + 1) = j0 k + 2 := by decide +kernel
theorem next_diag : ∀ k : Fin 10, ¬ j0 k < 2 * qi k → k.val + 1 < 10 → qN k = qi (k.val + 1) ∧ jN k = 0 ∧ j0 (k.val + 1) = 0 := by decide +kernel
theorem at_diag : ∀ T : Fin 4, diag T < 10 ∧ qi (diag T) = T ∧ j0 (diag T) = 2 * T := by decide +kernel

/-- Before every trip. -/
theorem seen_at (hf : ∀ row j, dotS x0 x1 row j ≠ ⊤) (s : St Ideal) :
    ∀ k, k < 10 → Seen x0 x1 x2 (qi k) (j0 k) (stateAt x0 x1 x2 maskV (start x0 x1 s) k)
  | 0, _ => seen_start x0 x1 x2 s
  | k + 1, h => by
    have ih := seen_at hf s k (by omega)
    show Seen x0 x1 x2 (qi (k + 1)) (j0 (k + 1)) (stepAt x0 x1 x2 maskV k (stateAt x0 x1 x2 maskV (start x0 x1 s) k))
    unfold stepAt
    by_cases hk : j0 k < 2 * qi k
    · obtain ⟨_, h2, h3, h4, h5, h6⟩ := next_low ⟨k, by omega⟩ hk
      rw [if_pos hk]
      dsimp only at h2 h3 h4 h5 h6
      rw [h3, h4, h5, h6]
      exact seen_low x0 x1 x2 hf h2 ih
    · obtain ⟨h2, h3, h4⟩ := next_diag ⟨k, by omega⟩ hk h
      rw [if_neg hk]
      dsimp only at h2 h3 h4
      rw [h2, h3, h4]
      exact seen_reset x0 x1 x2 _ _ _ _ _ _ _ _

theorem seen_tile (hf : ∀ row j, dotS x0 x1 row j ≠ ⊤) (T : Fin 4) : Seen x0 x1 x2 T (2 * T) (tileState x0 x1 x2 T) := by
  obtain ⟨h1, h2, h3⟩ := at_diag T
  have := seen_at x0 x1 x2 hf (someState x0 x1) (diag T) h1
  rwa [h2, h3] at this

/-- The accumulator after the diagonal: every visible key of the row, and (the row's own chunk being the last visible) no other. -/
theorem acc_tile (hf : ∀ row j, dotS x0 x1 row j ≠ ⊤) (T : Fin 4) (r : Fin 144) (c : Fin 1024) :
    accB (rowsS x0 (1024 * T.val + 512)) (rowsS x1 (512 * (2 * T.val + 1))) (slab x2 (2 * T.val)) (slab x2 (2 * T.val + 1)) maskV (tileState x0 x1 x2 T.val) (ix2 r c)
      = rowAcc (sc x0 x1 (1024 * T.val + c.val)) (val x2 r) 4096 := by
  have hs := seen_tile x0 x1 x2 hf T
  revert hs
  generalize tileState x0 x1 x2 T.val = s
  intro hs
  have hT := T.isLt
  have hc := c.isLt
  unfold accB
  by_cases h : c.val < 512
  · refine (halves_lo _ _ _ _ _ h).trans ?_
    have hsc : ∀ j : Fin 512, (if maskV (ix2 j ⟨c.val, h⟩) = 1#1 then loS s.sa (ix2 j ⟨c.val, h⟩) else ⊥) = sc x0 x1 (1024 * T.val + c.val) (512 * (2 * T.val) + j.val) := by
      intro j
      have hj := j.isLt
      rw [loS_apply, hs.hsa]
      unfold sc
      by_cases hv : j.val / 64 ≤ c.val / 64
      · rw [if_pos ((maskV_apply _ _).2 hv), if_pos (by omega)]
      · rw [if_neg (fun e => hv ((maskV_apply _ _).1 e)), if_neg (by omega)]
    have m1 : max (loM s.m (ix2 0 ⟨c.val, h⟩)) (Finset.univ.fold max ⊥ fun j : Fin 512 => if maskV (ix2 j ⟨c.val, h⟩) = 1#1 then loS s.sa (ix2 j ⟨c.val, h⟩) else ⊥)
        = rowMax (sc x0 x1 (1024 * T.val + c.val)) (512 * (2 * T.val) + 512) := by
      rw [loM_apply, hs.hm]
      exact fold_max x0 x1 _ _ _ hsc
    rw [pay15_apply]
    simp only [pay13_apply, pay14_apply]
    rw [m1, loM_apply, loA_apply, hs.hm, hs.hacc]
    rw [← rowAcc_ext (sc x0 x1 (1024 * T.val + c.val)) (val x2 r) (n := 512 * (2 * T.val) + 512) (k := 4096) (by omega)
      (fun j hj _ => if_neg (by omega))]
    exact fold_acc x0 x1 x2 hf _ _ _ _ hsc
  · refine (halves_hi _ _ _ _ _ h).trans ?_
    have hc' : 512 + (c.val - 512) = c.val := by omega
    have e0 : ∀ j : Fin 512, hiS s.sa (ix2 j ⟨c.val - 512, by omega⟩) = sc x0 x1 (1024 * T.val + c.val) (512 * (2 * T.val) + j.val) := by
      intro j
      have hj := j.isLt
      rw [hiS_apply, hs.hsa, sc_vis x0 x1 (by omega)]
      simp only [hc']
    have m1 : max (hiM s.m (ix2 0 ⟨c.val - 512, by omega⟩)) (hiM s.ma (ix2 0 ⟨c.val - 512, by omega⟩)) = rowMax (sc x0 x1 (1024 * T.val + c.val)) (512 * (2 * T.val) + 512) := by
      rw [hiM_apply, hiM_apply, hs.hm, hs.hma]
      simp only [hc']
      exact fold_max x0 x1 _ _ _ fun j => (sc_vis x0 x1 (by have := j.isLt; omega)).symm
    have hm0 : hiM s.m (ix2 0 ⟨c.val - 512, by omega⟩) = rowMax (sc x0 x1 (1024 * T.val + c.val)) (512 * (2 * T.val)) := by
      rw [hiM_apply, hs.hm]
      simp only [hc']
    have a0 : hiA s.acc (ix2 r ⟨c.val - 512, by omega⟩) = rowAcc (sc x0 x1 (1024 * T.val + c.val)) (val x2 r) (512 * (2 * T.val)) := by
      rw [hiA_apply, hs.hacc]
      simp only [hc']
    have a1 : k0_pay62 (k0_pay18 (hiS s.sa) (hiM s.ma) (hiM s.m) (hiA s.acc) (slab x2 (2 * T.val))) (ix2 r ⟨c.val - 512, by omega⟩) = rowAcc (sc x0 x1 (1024 * T.val + c.val)) (val x2 r) (512 * (2 * T.val) + 512) := by
      rw [pay62_apply, pay18_apply]
      rw [m1, hm0, a0]
      exact fold_acc x0 x1 x2 hf _ _ _ _ e0
    have mh : k0_pay63 (k0_pay17 (hiM s.ma) (hiM s.m)) (ix2 0 ⟨c.val - 512, by omega⟩) = rowMax (sc x0 x1 (1024 * T.val + c.val)) (512 * (2 * T.val + 1)) := by
      rw [pay63_apply, pay17_apply, m1, show 512 * (2 * T.val) + 512 = 512 * (2 * T.val + 1) by omega]
    have hsc : ∀ j : Fin 512, (if maskV (ix2 j ⟨c.val - 512, by omega⟩) = 1#1 then k0_pay9 (rowsS x1 (512 * (2 * T.val + 1))) (rowsS x0 (1024 * T.val + 512)) (ix2 j ⟨c.val - 512, by omega⟩) else ⊥) = sc x0 x1 (1024 * T.val + c.val) (512 * (2 * T.val + 1) + j.val) := by
      intro j
      have hj := j.isLt
      rw [(pay9_apply _ _ _ _).trans (score_S x0 x1 _ _ _ _)]
      simp only [show 1024 * T.val + 512 + (c.val - 512) = 1024 * T.val + c.val by omega]
      unfold sc
      by_cases hv : j.val / 64 ≤ (c.val - 512) / 64
      · rw [if_pos ((maskV_apply _ _).2 hv), if_pos (by omega)]
      · rw [if_neg (fun e => hv ((maskV_apply _ _).1 e)), if_neg (by omega)]
    have m2 : max (k0_pay63 (k0_pay17 (hiM s.ma) (hiM s.m)) (ix2 0 ⟨c.val - 512, by omega⟩)) (Finset.univ.fold max ⊥ fun j : Fin 512 => if maskV (ix2 j ⟨c.val - 512, by omega⟩) = 1#1 then k0_pay9 (rowsS x1 (512 * (2 * T.val + 1))) (rowsS x0 (1024 * T.val + 512)) (ix2 j ⟨c.val - 512, by omega⟩) else ⊥)
        = rowMax (sc x0 x1 (1024 * T.val + c.val)) (512 * (2 * T.val + 1) + 512) := by
      rw [mh]
      exact fold_max x0 x1 _ _ _ hsc
    rw [pay55_apply]
    simp only [pay53_apply, pay54_apply]
    rw [m2, mh, a1, show 512 * (2 * T.val) + 512 = 512 * (2 * T.val + 1) by omega]
    rw [← rowAcc_ext (sc x0 x1 (1024 * T.val + c.val)) (val x2 r) (n := 512 * (2 * T.val + 1) + 512) (k := 4096) (by omega)
      (fun j hj _ => if_neg (by omega))]
    exact fold_acc x0 x1 x2 hf _ _ _ _ hsc

/-- A row of the result. -/
theorem outV_apply (hf : ∀ row j, dotS x0 x1 row j ≠ ⊤) (t : Fin 4096) (d : Fin 128) :
    outV x0 x1 x2 (ix2 t d) = Ideal.div (rowAcc (sc x0 x1 t.val) (val x2 ⟨d.val, by omega⟩) 4096) (rowAcc (sc x0 x1 t.val) (val x2 128) 4096) := by
  have ht := t.isLt
  have e : 1024 * (t.val / 1024) + t.val % 1024 = t.val := by omega
  show tileV x0 x1 x2 (t.val / 1024) (ValueIdx.ix2 ⟨t.val % 1024, _⟩ ⟨d.val, _⟩) = _
  rw [← ix2_eq_valueIdx]
  unfold tileV
  rw [pay57_apply]
  rw [acc_tile x0 x1 x2 hf ⟨t.val / 1024, by omega⟩, acc_tile x0 x1 x2 hf ⟨t.val / 1024, by omega⟩]
  simp only [e]

end

end Cert.Mla.KernelIdeal

end
-- ==== Proof.MlaHost.lean ====
module

public import proofs.«01_k».proof.Proof.MlaFold
public import proofs.«01_k».proof.Proof.MlaFrame
public import Idealize.ShloMosaic.Lib.StableHlo.ReadAt

@[expose] public section

set_option maxRecDepth 16384

noncomputable section

namespace Cert.Mla.KernelIdeal

open Cert.KernelIdeal Cert.KernelIdeal.Gen
open Idealize.ShloMosaic Idealize.ShloMosaic.TcCoe Idealize.ShloMosaic.Tactic

variable (m : (ℓ : Loc nD τ sig) → Buf (Elt Ideal) ℓ)

/-- Component `e` of a 256-wide padded row: the first 128 components, then the remaining two halves of 32, each
    followed by 32 zeros. -/
def pad (f : Fin 192 → EReal) (e : Fin 256) : EReal :=
  if h : e.val < 128 then f ⟨e.val, by omega⟩
  else if h : e.val < 160 then f ⟨e.val, by omega⟩
  else if h : e.val < 192 then 0
  else if h : e.val < 224 then f ⟨e.val - 32, by omega⟩
  else 0

/-- The factor the queries are scaled by. -/
def scale : EReal := Ideal.div 1 (Ideal.sqrt (Ideal.ofBits FTy.f32 1128267776#32) * Ideal.log (Ideal.ofBits FTy.f32 1073741824#32))

/-- The queries by batch, row, head and component. -/
def Q (c : Dev nD) (b : Fin 8) (t : Fin 4096) (h : Fin 8) (d : Fin 192) : EReal :=
  (m (c.tc.loc main_arg0) : Vec Ideal S8x4096x8x192 .f32) (ix4 b t h d)
/-- The keys by batch, row, head and component. -/
def K (c : Dev nD) (b : Fin 8) (t : Fin 4096) (h : Fin 8) (d : Fin 192) : EReal :=
  (m (c.tc.loc main_arg1) : Vec Ideal S8x4096x8x192 .f32) (ix4 b t h d)
/-- The values by batch, row, head and component. -/
def W (c : Dev nD) (b : Fin 8) (t : Fin 4096) (h : Fin 8) (d : Fin 128) : EReal :=
  (m (c.tc.loc main_arg2) : Vec Ideal S8x4096x8x128 .f32) (ix4 b t h d)

/-- The scaled queries as the kernel lays them out, one entry. -/
theorem v14_at (c : Dev nD) (R : Fin 32768) (C : Fin 2048) :
    (V m c main_v14 : FVec Ideal S32768x2048 .bf16) (ix2 R C)
      = (pad (Q m c ⟨R.val / 4096, by omega⟩ ⟨R.val % 4096, by omega⟩ ⟨C.val / 256, by omega⟩) ⟨C.val % 256, by omega⟩ * scale : EReal) := by
  unfold V
  after_reads_at
  unfold pad scale Q
  dsimp only
  by_cases h1 : C.val % 256 < 128
  · simp only [dif_pos h1]
    after_reads_at
    try rfl
  · simp only [dif_neg h1]
    after_reads_at
    by_cases h2 : C.val % 256 < 160
    · have e : C.val % 256 - 128 < 32 := by omega
      simp only [dif_pos h2, dif_pos e]
      after_reads_at
      exact congrArg (fun d : Fin 192 => (Q m c ⟨R.val / 4096, by omega⟩ ⟨R.val % 4096, by omega⟩ ⟨C.val / 256, by omega⟩ d * scale : EReal)) (Fin.ext (by show 128 + (C.val % 256 - 128) = C.val % 256; omega))
    · have e : ¬ C.val % 256 - 128 < 32 := by omega
      simp only [dif_neg h2, dif_neg e]
      by_cases h3 : C.val % 256 < 192
      · have e : C.val % 256 - 128 - 32 < 32 := by omega
        simp only [dif_pos h3, dif_pos e]
        after_reads_at
      · have e : ¬ C.val % 256 - 128 - 32 < 32 := by omega
        simp only [dif_neg h3, dif_neg e]
        by_cases h4 : C.val % 256 < 224
        · have e : C.val % 256 - 128 - 32 - 32 < 32 := by omega
          simp only [dif_pos h4, dif_pos e]
          after_reads_at
          exact congrArg (fun d : Fin 192 => (Q m c ⟨R.val / 4096, by omega⟩ ⟨R.val % 4096, by omega⟩ ⟨C.val / 256, by omega⟩ d * scale : EReal)) (Fin.ext (by show 128 + (32 + (C.val % 256 - 128 - 32 - 32)) = C.val % 256 - 32; omega))
        · have e : ¬ C.val % 256 - 128 - 32 - 32 < 32 := by omega
          simp only [dif_neg h4, dif_neg e]
          after_reads_at

/-- The keys as the kernel lays them out, one entry. -/
theorem v23_at (c : Dev nD) (R : Fin 32768) (C : Fin 2048) :
    (V m c main_v23 : FVec Ideal S32768x2048 .bf16) (ix2 R C)
      = (pad (K m c ⟨R.val / 4096, by omega⟩ ⟨R.val % 4096, by omega⟩ ⟨C.val / 256, by omega⟩) ⟨C.val % 256, by omega⟩ : EReal) := by
  unfold V
  after_reads_at
  unfold pad K
  dsimp only
  by_cases h1 : C.val % 256 < 128
  · simp only [dif_pos h1]
    after_reads_at
    try rfl
  · simp only [dif_neg h1]
    after_reads_at
    by_cases h2 : C.val % 256 < 160
    · have e : C.val % 256 - 128 < 32 := by omega
      simp only [dif_pos h2, dif_pos e]
      after_reads_at
      exact congrArg (fun d : Fin 192 => (K m c ⟨R.val / 4096, by omega⟩ ⟨R.val % 4096, by omega⟩ ⟨C.val / 256, by omega⟩ d : EReal)) (Fin.ext (by show 128 + (C.val % 256 - 128) = C.val % 256; omega))
    · have e : ¬ C.val % 256 - 128 < 32 := by omega
      simp only [dif_neg h2, dif_neg e]
      by_cases h3 : C.val % 256 < 192
      · have e : C.val % 256 - 128 - 32 < 32 := by omega
        simp only [dif_pos h3, dif_pos e]
        after_reads_at
      · have e : ¬ C.val % 256 - 128 - 32 < 32 := by omega
        simp only [dif_neg h3, dif_neg e]
        by_cases h4 : C.val % 256 < 224
        · have e : C.val % 256 - 128 - 32 - 32 < 32 := by omega
          simp only [dif_pos h4, dif_pos e]
          after_reads_at
          exact congrArg (fun d : Fin 192 => (K m c ⟨R.val / 4096, by omega⟩ ⟨R.val % 4096, by omega⟩ ⟨C.val / 256, by omega⟩ d : EReal)) (Fin.ext (by show 128 + (32 + (C.val % 256 - 128 - 32 - 32)) = C.val % 256 - 32; omega))
        · have e : ¬ C.val % 256 - 128 - 32 - 32 < 32 := by omega
          simp only [dif_neg h4, dif_neg e]
          after_reads_at

/-- The values as the kernel lays them out: 128 rows of values and then rows of ones, in each head and block of keys. -/
theorem v29_at (c : Dev nD) (R : Fin 64) (C : Fin 1152) (j : Fin 512) :
    (V m c main_v29 : FVec Ideal S64x1152x512 .bf16) (ix3 R C j)
      = if h : C.val % 144 < 128 then W m c ⟨R.val / 8, by omega⟩ ⟨R.val % 8 * 512 + j.val, by omega⟩ ⟨C.val / 144, by omega⟩ ⟨C.val % 144, h⟩ else (1 : EReal) := by
  unfold V
  after_reads_at
  by_cases h1 : C.val % 144 < 128
  · simp only [dif_pos h1]
    after_reads_at
    rfl
  · simp only [dif_neg h1]
    after_reads_at

end Cert.Mla.KernelIdeal

end
-- ==== Proof.MlaScore.lean ====
/-
  A block of the kernel's result is a block of the attention: the padded, scaled inner products are the scores over
  log 2, and the closed form of the block is then the weighted mean of the values.
-/
module

public import proofs.«01_k».proof.Proof.MlaHost
public import proofs.«01_k».proof.Proof.MlaSpec

@[expose] public section

set_option maxRecDepth 16384

noncomputable section

namespace Cert.Mla.KernelIdeal

open Cert.KernelIdeal Cert.KernelIdeal.Gen
open Idealize.ShloMosaic Idealize.ShloMosaic.TcCoe Idealize.ShloMosaic.Tactic

/-- A padded row sums to what the row sums to. -/
theorem pad_sum (f : Fin 192 → EReal) : ∑ e : Fin 256, pad f e = ∑ d : Fin 192, f d := by
  have e1 : ∑ e : Fin 256, pad f e = ∑ e ∈ Finset.range (128 + 32 + 32 + 32 + 32), (if h : e < 256 then pad f ⟨e, h⟩ else 0) := by
    rw [Finset.sum_range]
    exact Finset.sum_congr rfl fun e _ => by rw [dif_pos e.isLt]
  have e2 : ∑ d : Fin 192, f d = ∑ d ∈ Finset.range (128 + 32 + 32), (if h : d < 192 then f ⟨d, h⟩ else 0) := by
    rw [Finset.sum_range]
    exact Finset.sum_congr rfl fun e _ => by rw [dif_pos e.isLt]
  rw [e1, e2]
  simp only [Finset.sum_range_add]
  have a1 : ∑ e ∈ Finset.range 128, (if h : e < 256 then pad f ⟨e, h⟩ else 0) = ∑ d ∈ Finset.range 128, (if h : d < 192 then f ⟨d, h⟩ else 0) :=
    Finset.sum_congr rfl fun e he => by
      have he := Finset.mem_range.1 he
      rw [dif_pos (by omega), dif_pos (by omega)]; unfold pad; rw [dif_pos he]
  have a2 : ∑ e ∈ Finset.range 32, (if h : 128 + e < 256 then pad f ⟨128 + e, h⟩ else 0) = ∑ d ∈ Finset.range 32, (if h : 128 + d < 192 then f ⟨128 + d, h⟩ else 0) :=
    Finset.sum_congr rfl fun e he => by
      have he := Finset.mem_range.1 he
      rw [dif_pos (by omega), dif_pos (by omega)]; unfold pad
      rw [dif_neg (by show ¬ 128 + e < 128; omega), dif_pos (by show 128 + e < 160; omega)]
  have a3 : ∑ e ∈ Finset.range 32, (if h : 128 + 32 + e < 256 then pad f ⟨128 + 32 + e, h⟩ else 0) = 0 :=
    Finset.sum_eq_zero fun e he => by
      have he := Finset.mem_range.1 he
      rw [dif_pos (by omega)]; unfold pad
      rw [dif_neg (by show ¬ 128 + 32 + e < 128; omega), dif_neg (by show ¬ 128 + 32 + e < 160; omega), dif_pos (by show 128 + 32 + e < 192; omega)]
  have a4 : ∑ e ∈ Finset.range 32, (if h : 128 + 32 + 32 + e < 256 then pad f ⟨128 + 32 + 32 + e, h⟩ else 0)
      = ∑ d ∈ Finset.range 32, (if h : 128 + 32 + d < 192 then f ⟨128 + 32 + d, h⟩ else 0) :=
    Finset.sum_congr rfl fun e he => by
      have he := Finset.mem_range.1 he
      rw [dif_pos (by omega), dif_pos (by omega)]; unfold pad
      rw [dif_neg (by show ¬ 128 + 32 + 32 + e < 128; omega), dif_neg (by show ¬ 128 + 32 + 32 + e < 160; omega),
        dif_neg (by show ¬ 128 + 32 + 32 + e < 192; omega), dif_pos (by show 128 + 32 + 32 + e < 224; omega)]
      exact congrArg f (Fin.ext (by show 128 + 32 + 32 + e - 32 = 128 + 32 + e; omega))
  have a5 : ∑ e ∈ Finset.range 32, (if h : 128 + 32 + 32 + 32 + e < 256 then pad f ⟨128 + 32 + 32 + 32 + e, h⟩ else 0) = 0 :=
    Finset.sum_eq_zero fun e he => by
      have he := Finset.mem_range.1 he
      rw [dif_pos (by omega)]; unfold pad
      rw [dif_neg (by show ¬ 128 + 32 + 32 + 32 + e < 128; omega), dif_neg (by show ¬ 128 + 32 + 32 + 32 + e < 160; omega),
        dif_neg (by show ¬ 128 + 32 + 32 + 32 + e < 192; omega), dif_neg (by show ¬ 128 + 32 + 32 + 32 + e < 224; omega)]
  rw [a1, a2, a3, a4, a5, add_zero, add_zero]

/-- The product of two padded rows, the second scaled, is the padded row of products. -/
theorem pad_mul (f g : Fin 192 → EReal) (s : EReal) (e : Fin 256) :
    pad f e * (pad g e * s) = pad (fun d => f d * (g d * s)) e := by
  unfold pad
  split_ifs <;> simp

theorem w192 : Ideal.ofBits FTy.f32 1128267776#32 = ((192 : ℝ) : EReal) := by
  simp [Ideal.ofBits, Ideal.ieee, -EReal.coe_mul]; norm_num
theorem w2 : Ideal.ofBits FTy.f32 1073741824#32 = ((2 : ℝ) : EReal) := by
  simp [Ideal.ofBits, Ideal.ieee, -EReal.coe_mul]; try norm_num

theorem log2_pos : 0 < Real.log 2 := Real.log_pos (by norm_num)
theorem sqrt_pos' : 0 < Real.sqrt 192 := Real.sqrt_pos.2 (by norm_num)

theorem scale_eq : scale = ((1 / (Real.sqrt 192 * Real.log 2) : ℝ) : EReal) := by
  unfold scale
  rw [w192, w2, Ideal.sqrt_coe, Ideal.log_coe, if_neg (by norm_num), if_neg (by norm_num), ← EReal.coe_mul,
    Ideal.div_coe (mul_pos sqrt_pos' log2_pos).ne', one_mul]

theorem sum_coe {n : ℕ} (f : Fin n → ℝ) : ∑ d : Fin n, (f d : EReal) = ((∑ d : Fin n, f d : ℝ) : EReal) := by
  induction n with
  | zero => simp
  | succ n ih => rw [Fin.sum_univ_succ, Fin.sum_univ_succ, ih, EReal.coe_add]

/-- The kernel's inner product of a padded key row and a padded scaled query row is the score over log 2. -/
theorem score_eq (q k : Fin 192 → ℝ) :
    ∑ e : Fin 256, pad (fun d => (k d : EReal)) e * (pad (fun d => (q d : EReal)) e * scale)
      = (((∑ d, q d * k d) / Real.sqrt 192 * (1 / Real.log 2) : ℝ) : EReal) := by
  simp only [pad_mul, pad_sum, scale_eq, ← EReal.coe_mul]
  rw [sum_coe, EReal.coe_eq_coe_iff, Finset.sum_div, Finset.sum_mul]
  refine Finset.sum_congr rfl fun d _ => ?_
  have := log2_pos.ne'
  have := sqrt_pos'.ne'
  field_simp

theorem qk_eq (q k : Fin 8 → Fin 4096 → Fin 8 → Fin 192 → EReal) (qr kr : Fin 8 → Fin 4096 → Fin 8 → Fin 192 → ℝ)
    (hq : ∀ b t h d, q b t h d = (qr b t h d : EReal)) (hk : ∀ b t h d, k b t h d = (kr b t h d : EReal)) (b : Fin 8) (t : Fin 4096) (h : Fin 8) (j : Fin 4096) :
    qk q k b t h j = (((∑ d, qr b t h d * kr b j h d) / Real.sqrt 192 : ℝ) : EReal) := by
  unfold qk
  simp only [hq, hk, ← EReal.coe_mul]
  rw [sum_coe, w192, Ideal.sqrt_coe, if_neg (by norm_num), Ideal.div_coe sqrt_pos'.ne', ← EReal.coe_mul, mul_one_div]

/-- A block of the result is a block of the attention. -/
theorem block_att (q k : Fin 8 → Fin 4096 → Fin 8 → Fin 192 → EReal) (v : Fin 8 → Fin 4096 → Fin 8 → Fin 128 → EReal)
    (qr kr : Fin 8 → Fin 4096 → Fin 8 → Fin 192 → ℝ)
    (hq : ∀ b t h d, q b t h d = (qr b t h d : EReal)) (hk : ∀ b t h d, k b t h d = (kr b t h d : EReal)) (b h : Fin 8)
    (x0 x1 : Vec Ideal S4096x256 .bf16) (x2 : Vec Ideal S8x144x512 .bf16)
    (h0 : ∀ (r : Fin 4096) (e : Fin 256), x0 (ix2 r e) = (pad (q b r h) e * scale : EReal))
    (h1 : ∀ (r : Fin 4096) (e : Fin 256), x1 (ix2 r e) = pad (k b r h) e)
    (h2 : ∀ (u : Fin 8) (r : Fin 144) (j : Fin 512), x2 (ix3 u r j) = if hr : r.val < 128 then v b ⟨u.val * 512 + j.val, by omega⟩ h ⟨r.val, hr⟩ else (1 : EReal))
    (t : Fin 4096) (d : Fin 128) :
    outV x0 x1 x2 (ix2 t d) = att q k v b t h d := by
  have hd : ∀ row j : ℕ, dotS x0 x1 row j
      = (((∑ d, qr b ⟨row % 4096, Nat.mod_lt _ (by norm_num)⟩ h d * kr b ⟨j % 4096, Nat.mod_lt _ (by norm_num)⟩ h d) / Real.sqrt 192 * (1 / Real.log 2) : ℝ) : EReal) := by
    intro row j
    unfold dotS
    rw [← score_eq]
    refine Finset.sum_congr rfl fun e _ => ?_
    rw [h0, h1]
    exact congrArg₂ (fun f g : Fin 192 → EReal => pad f e * (pad g e * scale)) (funext fun d => hk _ _ _ _) (funext fun d => hq _ _ _ _)
  have hS : ∀ j, sc x0 x1 t.val j = msc q k b t h j * ((1 / Real.log 2 : ℝ) : EReal) := by
    intro j
    unfold sc msc
    by_cases hc : j / 64 ≤ t.val / 64
    · rw [if_pos hc, if_pos hc, hd, qk_eq q k qr kr hq hk, ← EReal.coe_mul]
      simp only [Nat.mod_eq_of_lt t.isLt]
    · rw [if_neg hc, if_neg hc, EReal.bot_mul_coe_of_pos (by have := log2_pos; positivity)]
  have ht : ∀ j, msc q k b t h j ≠ ⊤ := by
    intro j
    unfold msc
    by_cases hc : j / 64 ≤ t.val / 64
    · rw [if_pos hc, qk_eq q k qr kr hq hk]; exact EReal.coe_ne_top _
    · rw [if_neg hc]; exact bot_ne_top
  have hv : msc q k b t h t.val ≠ ⊥ := by
    unfold msc
    rw [if_pos le_rfl, qk_eq q k qr kr hq hk]; exact EReal.coe_ne_bot _
  have hone : val x2 128 = fun _ => 1 := by
    funext j
    unfold val
    rw [h2, dif_neg (by show ¬ 128 < 128; omega)]
  refine (outV_apply x0 x1 x2 (fun row j => by rw [hd]; exact EReal.coe_ne_top _) t d).trans ?_
  rw [hone, row_eq hS ht t.isLt hv]
  unfold att
  refine Finset.sum_congr rfl fun j hj => ?_
  have hj := Finset.mem_range.1 hj
  refine congrArg (fun x : EReal => x * _) ?_
  unfold val
  rw [h2, dif_pos d.isLt]
  exact congrArg (fun u : Fin 4096 => v b u h d) (Fin.ext (by show j / 512 % 8 * 512 + j % 512 = j % 4096; omega))

end Cert.Mla.KernelIdeal

end
-- ==== Proof.MlaValue.lean ====
/-
  The kernel's result array: every point's block placed, the attention of the arguments.
-/
module

public import proofs.«01_k».proof.Proof.MlaScore
public import Idealize.ShloMosaic.Lib.Pipeline.ValueKit.Geometry

@[expose] public section

set_option maxRecDepth 16384

noncomputable section

namespace Cert.Mla.KernelIdeal

open Cert.KernelIdeal Cert.KernelIdeal.Gen
open Idealize.ShloMosaic Idealize.ShloMosaic.TcCoe Idealize.ShloMosaic.Tactic

variable (m : (ℓ : Loc nD τ sig) → Buf (Elt Ideal) ℓ)

theorem idx : ∀ t : Fin (cfgM (F := Ideal)).N, ((cfgM (F := Ideal)).win 0).index t = ![(grid0.coords t 0).val, (grid0.coords t 1).val]
    ∧ ((cfgM (F := Ideal)).win 1).index t = ![(grid0.coords t 0).val, (grid0.coords t 1).val]
    ∧ ((cfgM (F := Ideal)).win 2).index t = ![(grid0.coords t 0).val, (grid0.coords t 1).val, 0]
    ∧ ((cfgM (F := Ideal)).win 3).index t = ![(grid0.coords t 0).val, (grid0.coords t 1).val] := by
  decide +kernel

/-- The batch of a grid point. -/
def pb (t : Fin (cfgM (F := Ideal)).N) : Fin 8 := grid0.coords t 0
/-- The head of a grid point. -/
def ph (t : Fin (cfgM (F := Ideal)).N) : Fin 8 := grid0.coords t 1

theorem iblk0_at (c : Dev nD) (t : Fin (cfgM (F := Ideal)).N) (r : Fin 4096) (e : Fin 256) :
    (iblk m c 0 t : Vec Ideal S4096x256 .bf16) (ix2 r e)
      = (V m c main_v14 : Vec Ideal S32768x2048 .bf16) (ix2 ⟨(pb t).val * 4096 + r.val, by omega⟩ ⟨(ph t).val * 256 + e.val, by omega⟩) := by
  have i := (idx t).1
  unfold pb ph
  blk_ext [iblk, i]

theorem iblk1_at (c : Dev nD) (t : Fin (cfgM (F := Ideal)).N) (r : Fin 4096) (e : Fin 256) :
    (iblk m c 1 t : Vec Ideal S4096x256 .bf16) (ix2 r e)
      = (V m c main_v23 : Vec Ideal S32768x2048 .bf16) (ix2 ⟨(pb t).val * 4096 + r.val, by omega⟩ ⟨(ph t).val * 256 + e.val, by omega⟩) := by
  have i := (idx t).2.1
  unfold pb ph
  blk_ext [iblk, i]

theorem iblk2_at (c : Dev nD) (t : Fin (cfgM (F := Ideal)).N) (u : Fin 8) (r : Fin 144) (j : Fin 512) :
    (iblk m c 2 t : Vec Ideal S8x144x512 .bf16) (ix3 u r j)
      = (V m c main_v29 : Vec Ideal S64x1152x512 .bf16) (ix3 ⟨(pb t).val * 8 + u.val, by omega⟩ ⟨(ph t).val * 144 + r.val, by omega⟩ j) := by
  have i := (idx t).2.2.1
  unfold pb ph
  blk_ext [iblk, i]

/-- Every argument entry the scores use is a real number. -/
def Real4 (q : Fin 8 → Fin 4096 → Fin 8 → Fin 192 → EReal) : Prop := ∃ r : Fin 8 → Fin 4096 → Fin 8 → Fin 192 → ℝ, ∀ b t h d, q b t h d = (r b t h d : EReal)

/-- What a point leaves is its block of the attention. -/
theorem point_att (c : Dev nD) (hq : Real4 (Q m c)) (hk : Real4 (K m c)) (t : Fin (cfgM (F := Ideal)).N) (r : Fin 4096) (d : Fin 128) :
    outV (F := Ideal) (iblk m c 0 t) (iblk m c 1 t) (iblk m c 2 t) (ix2 r d) = att (Q m c) (K m c) (W m c) (pb t) r (ph t) d := by
  obtain ⟨qr, hq⟩ := hq
  obtain ⟨kr, hk⟩ := hk
  refine block_att (Q m c) (K m c) (W m c) qr kr hq hk (pb t) (ph t) _ _ _ ?_ ?_ ?_ r d
  · intro r e
    refine (iblk0_at m c t r e).trans ((v14_at m c _ _).trans ?_)
    have e1 : (⟨((pb t).val * 4096 + r.val) / 4096, by omega⟩ : Fin 8) = pb t := Fin.ext (by show ((pb t).val * 4096 + r.val) / 4096 = (pb t).val; omega)
    have e2 : (⟨((pb t).val * 4096 + r.val) % 4096, by omega⟩ : Fin 4096) = r := Fin.ext (by show ((pb t).val * 4096 + r.val) % 4096 = r.val; omega)
    have e3 : (⟨((ph t).val * 256 + e.val) / 256, by omega⟩ : Fin 8) = ph t := Fin.ext (by show ((ph t).val * 256 + e.val) / 256 = (ph t).val; omega)
    have e4 : (⟨((ph t).val * 256 + e.val) % 256, by omega⟩ : Fin 256) = e := Fin.ext (by show ((ph t).val * 256 + e.val) % 256 = e.val; omega)
    rw [e1, e2, e3, e4]
  · intro r e
    refine (iblk1_at m c t r e).trans ((v23_at m c _ _).trans ?_)
    have e1 : (⟨((pb t).val * 4096 + r.val) / 4096, by omega⟩ : Fin 8) = pb t := Fin.ext (by show ((pb t).val * 4096 + r.val) / 4096 = (pb t).val; omega)
    have e2 : (⟨((pb t).val * 4096 + r.val) % 4096, by omega⟩ : Fin 4096) = r := Fin.ext (by show ((pb t).val * 4096 + r.val) % 4096 = r.val; omega)
    have e3 : (⟨((ph t).val * 256 + e.val) / 256, by omega⟩ : Fin 8) = ph t := Fin.ext (by show ((ph t).val * 256 + e.val) / 256 = (ph t).val; omega)
    have e4 : (⟨((ph t).val * 256 + e.val) % 256, by omega⟩ : Fin 256) = e := Fin.ext (by show ((ph t).val * 256 + e.val) % 256 = e.val; omega)
    rw [e1, e2, e3, e4]
  · intro u r j
    refine (iblk2_at m c t u r j).trans ((v29_at m c _ _ _).trans ?_)
    have e1 : ((pb t).val * 8 + u.val) / 8 = (pb t).val := by omega
    have e2 : ((pb t).val * 8 + u.val) % 8 = u.val := by omega
    have e3 : ((ph t).val * 144 + r.val) / 144 = (ph t).val := by omega
    have e4 : ((ph t).val * 144 + r.val) % 144 = r.val := by omega
    simp only [e1, e2, e3, e4]

/-- The attention in the result's layout. -/
def G (c : Dev nD) : Vec Ideal S32768x1024 .bf16 := fun i =>
  att (Q m c) (K m c) (W m c) ⟨(i 0).val / 4096, by have := (i 0).isLt; change _ < 32768 at this; omega⟩ ⟨(i 0).val % 4096, Nat.mod_lt _ (by norm_num)⟩
    ⟨(i 1).val / 128, by have := (i 1).isLt; change _ < 1024 at this; omega⟩ ⟨(i 1).val % 128, Nat.mod_lt _ (by norm_num)⟩

/-- The layout's entry at an index whose coordinates are a point's block and the index in it. -/
theorem att_at (c : Dev nD) (i : S32768x1024.Idx) (b h : Fin 8) (r : Fin 4096) (d : Fin 128)
    (e0 : (i 0).val = b.val * 4096 + r.val) (e1 : (i 1).val = h.val * 128 + d.val) :
    att (Q m c) (K m c) (W m c) b r h d = G m c i := by
  unfold G
  simp only [e0, e1]
  congr 1 <;> apply Fin.ext <;> simp only <;> omega

/-- The result array after the run is the attention. -/
theorem final (c : Dev nD) (hq : Real4 (Q m c)) (hk : Real4 (K m c)) :
    (dats (F := Ideal) m 0 c).arrAt 3 (cfgM (F := Ideal)).N = G m c := by
  refine (dats (F := Ideal) m 0 c).arrAt_eq_of_covers 3 _ (by decide +kernel) fun t hf y => ?_
  blk_simp
  rw [after_3]
  obtain ⟨r, d, rfl⟩ : ∃ (r : Fin 4096) (d : Fin 128), y = ix2 r d := ⟨y 0, y 1, by funext a; fin_cases a <;> rfl⟩
  refine (point_att m c hq hk t r d).trans ?_
  have i := (idx t).2.2.2
  have a0 : ((((cfgM (F := Ideal)).win 3).blk t).view.emb (ix2 r d) 0 : ℕ) = (pb t).val * 4096 + r.val := by
    unfold pb; blk_simp [i]
    try rfl
  have a1 : ((((cfgM (F := Ideal)).win 3).blk t).view.emb (ix2 r d) 1 : ℕ) = (ph t).val * 128 + d.val := by
    unfold ph; blk_simp [i]
    try rfl
  exact att_at m c _ (pb t) (ph t) r d a0 a1

end Cert.Mla.KernelIdeal

end
-- ==== Proof.lean ====
/- The proof of the claims of proofs.«01_k».proof.Defs: the frames of the programs, the named constant, and the equality of the results over the extended reals. -/
module

public import proofs.«01_k».proof.Defs
public import proofs.«01_k».proof.Proof.Gen.ReferenceIdeal.Run
public import proofs.«01_k».proof.Proof.Gen.BandKernel.Frame
public import proofs.«01_k».proof.Proof.Gen.BandKernelIdeal.Value
public import proofs.«01_k».proof.Proof.BandRef
public import proofs.«01_k».proof.Proof.Gen.BandReferenceIdeal.Run
public import proofs.«01_k».proof.Proof.MlaBitsFrame
public import proofs.«01_k».proof.Proof.MlaFrame
public import proofs.«01_k».proof.Proof.MlaPre
public import proofs.«01_k».proof.Proof.MlaRef
public import proofs.«01_k».proof.Proof.MlaValue
public import Idealize.ShloMosaic.Adequacy
public import Idealize.ShloMosaic.Init

@[expose] public section

noncomputable section

namespace Cert.Proof

open Idealize.ShloMosaic Idealize.SL.Sem

/-- The kernel's frame: it runs and leaves its arguments as they were and every semaphore at zero. -/
theorem frame_kernel : Cert.quiescent_Kernel := fun m ρ _ => Cert.Mla.Kernel.frame_run (F := Bits) m ρ

/-- The same of the kernel with its mask constant named. -/
theorem frame_ideal : Cert.quiescent_KernelIdeal := fun m ρ _ => Cert.Mla.KernelIdeal.frame_run (F := Ideal) m ρ

/-- The reference's frame: every host operation writes a buffer of its own, and none of the arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask literal, named, is minus infinity over the extended reals. -/
theorem named_mask : Cert.preserves_Kernel_KernelIdeal :=
  IdealRules.named_const.statement Cert.KernelIdeal.κ "mask" .f32 0xF149F2CA#32 ⊥ rfl

/-- Under the precondition every query and key entry is a real number. -/
theorem real_args [Cert.Pre_finite_scores.Facts] (m : (ℓ : Loc Cert.KernelIdeal.nD Cert.KernelIdeal.τ Cert.KernelIdeal.sig) → Buf (Elt Ideal) ℓ)
    (h : Cert.Pre_KernelIdeal_finite_scores m) (c : Dev Cert.KernelIdeal.nD) :
    Cert.Mla.KernelIdeal.Real4 (Cert.Mla.KernelIdeal.Q m c) ∧ Cert.Mla.KernelIdeal.Real4 (Cert.Mla.KernelIdeal.K m c) :=
  ⟨⟨fun b t h d => (Cert.Mla.KernelIdeal.Q m c b t h d).toReal, fun b t k d =>
      (Cert.Mla.Pre.real_of_lt _ ((Cert.Mla.Pre.fn_1 _ _ _ b t k d).symm.trans (congrFun (h c).1 _))).symm⟩,
    ⟨fun b t h d => (Cert.Mla.KernelIdeal.K m c b t h d).toReal, fun b t k d =>
      (Cert.Mla.Pre.real_of_lt _ ((Cert.Mla.Pre.fn_2 _ _ _ b t k d).symm.trans (congrFun (h c).2 _))).symm⟩⟩

/-- The reference's result on memories with the kernel's arguments is the attention of the kernel's arguments. -/
theorem ref_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2)) :
    Cert.ReferenceIdeal.Value.res_main_v28 m' c = Cert.Mla.KernelIdeal.G m c := by
  funext i
  obtain ⟨R, C, rfl⟩ : ∃ (R : Fin 32768) (C : Fin 1024), i = ix2 R C := ⟨i 0, i 1, by funext a; fin_cases a <;> rfl⟩
  refine (Cert.Mla.ReferenceIdeal.res_at m' c R C).trans ?_
  have q : Cert.Mla.ReferenceIdeal.Q m' c = Cert.Mla.KernelIdeal.Q m c := by
    funext b t h d; exact congrFun h0 (ix4 b t h d)
  have k : Cert.Mla.ReferenceIdeal.K m' c = Cert.Mla.KernelIdeal.K m c := by
    funext b t h d; exact congrFun h1 (ix4 b t h d)
  have w : Cert.Mla.ReferenceIdeal.W m' c = Cert.Mla.KernelIdeal.W m c := by
    funext b t h d; exact congrFun h2 (ix4 b t h d)
  rw [q, k, w]
  rfl

/-- The kernel's results and the reference's are equal over the extended reals. -/
theorem algebraic [Cert.Pre_finite_scores.Facts] : Cert.algebraic_KernelIdeal_ReferenceIdeal_pre_finite_scores := by
  intro m g m' g' hpre hargs
  refine ⟨fun c => Cert.Mla.KernelIdeal.G m c, ?_, ?_⟩
  · exact (θ_run Cert.KernelIdeal.defs _ _).mono (fun r h c =>
      ⟨((h.1 c).1 3).trans (Cert.Mla.KernelIdeal.final m c (real_args m hpre c).1 (real_args m hpre c).2),
       ((h.1 c).2 Cert.KernelIdeal.main_arg0 (show Cert.KernelIdeal.main_arg0 ∈ Pipeline.restRefs Cert.KernelIdeal.sig Cert.KernelIdeal.spec0 by decide)).trans (Cert.Mla.KernelIdeal.V_arg m c Cert.KernelIdeal.main_arg0 (by decide)),
       ((h.1 c).2 Cert.KernelIdeal.main_arg1 (show Cert.KernelIdeal.main_arg1 ∈ Pipeline.restRefs Cert.KernelIdeal.sig Cert.KernelIdeal.spec0 by decide)).trans (Cert.Mla.KernelIdeal.V_arg m c Cert.KernelIdeal.main_arg1 (by decide)),
       ((h.1 c).2 Cert.KernelIdeal.main_arg2 (show Cert.KernelIdeal.main_arg2 ∈ Pipeline.restRefs Cert.KernelIdeal.sig Cert.KernelIdeal.spec0 by decide)).trans (Cert.Mla.KernelIdeal.V_arg m c Cert.KernelIdeal.main_arg2 (by decide))⟩)
      (Cert.Mla.KernelIdeal.run_main (F := Ideal) m g)
  · exact (θ_run Cert.ReferenceIdeal.defs _ _).mono (fun r h c =>
      ⟨(h c).1.trans (ref_eq m m' c (hargs c).1 (hargs c).2.1 (hargs c).2.2), (h c).2⟩)
      (Cert.ReferenceIdeal.Value.run (F := Ideal) m' g')

/-- The frame of the band projection. -/
theorem frame_band : Cert.quiescent_BandKernel := fun m ρ _ => Cert.BandKernel.Gen.frame (F := Bits) m ρ

/-- The same over the extended reals. -/
theorem frame_band_ideal : Cert.quiescent_BandKernelIdeal := fun m ρ _ => Cert.BandKernelIdeal.Gen.frame (F := Ideal) m ρ

/-- The frame of the band projection's reference. -/
theorem frame_band_reference : Cert.quiescent_BandReferenceIdeal := fun m ρ _ =>
  (θ_run Cert.BandReferenceIdeal.defs _ _).mono
    (fun r h => ⟨fun c => (h c).2.2.2.2.2, sem_eq_zero_of_no_sems (by decide) r.2⟩)
    (Cert.BandReferenceIdeal.Value.run (F := Ideal) m ρ)

/-- The band projection's results and its reference's are equal over the extended reals: each is the products of the
    activations' rows with the weights' columns. -/
theorem algebraic_band : Cert.algebraic_BandKernelIdeal_BandReferenceIdeal := by
  intro m g m' g' _ hargs
  have hx : ∀ c : Dev Cert.BandKernelIdeal.nD, (fun b t d => (m' (c.tc.loc Cert.BandReferenceIdeal.main_arg0) : FVec Ideal Cert.BandReferenceIdeal.S8x4096x2048 .f32) (ix3 b t d)) = Cert.Band.X m c := by
    intro c; funext b t d; exact congrFun (hargs c).1 (ix3 b t d)
  have hw : ∀ c : Dev Cert.BandKernelIdeal.nD, (fun d j => (m' (c.tc.loc Cert.BandReferenceIdeal.main_arg1) : FVec Ideal Cert.BandReferenceIdeal.S2048x3904 .f32) (ix2 d j)) = Cert.Band.W m c := by
    intro c; funext d j; exact congrFun (hargs c).2 (ix2 d j)
  refine ⟨fun c => Cert.Band.rowsOf (Cert.Band.X m c) (Cert.Band.W m c) 832, fun c => Cert.Band.rowsOf (Cert.Band.X m c) (Cert.Band.W m c) 1856,
    fun c => Cert.Band.valsOf (Cert.Band.X m c) (Cert.Band.W m c), fun c => Cert.Band.tailOf (Cert.Band.X m c) (Cert.Band.W m c) 1856,
    fun c => Cert.Band.tailOf (Cert.Band.X m c) (Cert.Band.W m c) 2880, ?_, ?_⟩
  · exact (θ_run Cert.BandKernelIdeal.defs _ _).mono (fun r h c =>
      ⟨(h c).1.trans (Cert.Band.final3 m c), (h c).2.1.trans (Cert.Band.final4 m c), (h c).2.2.1.trans (Cert.Band.final5 m c),
        (h c).2.2.2.1.trans (Cert.Band.final6 m c), (h c).2.2.2.2.1.trans (Cert.Band.final7 m c), (h c).2.2.2.2.2⟩)
      (Cert.BandKernelIdeal.Value.run_blocks (F := Ideal) m g)
  · exact (θ_run Cert.BandReferenceIdeal.defs _ _).mono (fun r h c =>
      ⟨(h c).1.trans ((Cert.Band.refRows_eq _ _ 832 _).trans (congrArg₂ (fun x w => Cert.Band.rowsOf x w 832) (hx c) (hw c))),
        (h c).2.1.trans ((Cert.Band.refRows_eq _ _ 1856 _).trans (congrArg₂ (fun x w => Cert.Band.rowsOf x w 1856) (hx c) (hw c))),
        (h c).2.2.1.trans ((Cert.Band.refVals_eq _ _).trans (congrArg₂ (fun x w => Cert.Band.valsOf x w) (hx c) (hw c))),
        (h c).2.2.2.1.trans ((Cert.Band.refTail_eq _ _ 1856 _).trans (congrArg₂ (fun x w => Cert.Band.tailOf x w 1856) (hx c) (hw c))),
        (h c).2.2.2.2.1.trans ((Cert.Band.refTail_eq _ _ 2880 _).trans (congrArg₂ (fun x w => Cert.Band.tailOf x w 2880) (hx c) (hw c))),
        (h c).2.2.2.2.2⟩)
      (Cert.BandReferenceIdeal.Value.run (F := Ideal) m' g')

/-- All the claims. -/
theorem claim : Cert.Claim :=
  haveI := Cert.Mla.Pre.facts
  ⟨Cert.Kernel.Gen.facts, Cert.KernelIdeal.Gen.facts, Cert.ReferenceIdeal.Gen.facts, Cert.BandKernel.Gen.facts, Cert.BandKernelIdeal.Gen.facts,
    Cert.BandReferenceIdeal.Gen.facts, Cert.Mla.Pre.facts,
    frame_kernel, frame_ideal, fun m g _ => frame_ideal m g trivial, frame_reference, fun m g _ => frame_reference m g trivial,
    frame_band, frame_band_ideal, frame_band_reference, named_mask, algebraic, trivial, algebraic_band⟩

end Cert.Proof

end
